-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 8, 64]⟩ ⟨4, ![2, 512, 128, 64]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 128, 64]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![8192, 768]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x8x64 : S_.BroadcastsInDim S2x512x8x64 (![] : Fin 0 → Fin S2x512x8x64.rank)

variable [Facts]

def fn {F : FTy → Type} [FloatOps F] (main_arg0 : FVec F S2x512x768 .bf16) (main_arg1 : FVec F S768x512 .bf16) (main_arg2 : FVec F S2x512x8x64 .bf16) (main_arg3 : FVec F S2x512x8x64 .bf16) (main_arg4 : FVec F S512x768 .bf16) : IVec S2x512x768 1 × IVec S768x512 1 × IVec S2x512x8x64 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_v3 : FVec F S768x512 .bf16 := Host.absf main_arg1
  let main_cst_0 : FVec F S_ .bf16 := constant S_ .bf16 0x7F80#16
  let main_v4 : FVec F S768x512 .bf16 := broadcastInDim S768x512 ![] bcast_S_S768x512 main_cst_0
  let main_v5 : IVec S768x512 1 := cmpf .olt main_v3 main_v4
  let main_v6 : FVec F S2x512x8x64 .bf16 := Host.absf main_arg2
  let main_cst_1 : FVec F S_ .bf16 := constant S_ .bf16 0x7F80#16
  let main_v7 : FVec F S2x512x8x64 .bf16 := broadcastInDim S2x512x8x64 ![] bcast_S_S2x512x8x64 main_cst_1
  let main_v8 : IVec S2x512x8x64 1 := cmpf .olt main_v6 main_v7
  (main_v2, main_v5, main_v8)
-- ==== Pre_finite_ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S_ : Shape := ⟨0, ![]⟩

class Facts : Prop where
  bcast_S_S2x512x768 : S_.BroadcastsInDim S2x512x768 (![] : Fin 0 → Fin S2x512x768.rank)
  bcast_S_S768x8192 : S_.BroadcastsInDim S768x8192 (![] : Fin 0 → Fin S768x8192.rank)
  bcast_S_S2x512x128x64 : S_.BroadcastsInDim S2x512x128x64 (![] : Fin 0 → Fin S2x512x128x64.rank)

variable [Facts]

def fn {F : FTy → Type} [FloatOps F] (main_arg0 : FVec F S2x512x768 .bf16) (main_arg1 : FVec F S768x8192 .bf16) (main_arg2 : FVec F S2x512x128x64 .bf16) (main_arg3 : FVec F S2x512x128x64 .bf16) (main_arg4 : FVec F S8192x768 .bf16) : IVec S2x512x768 1 × IVec S768x8192 1 × IVec S2x512x128x64 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_v3 : FVec F S768x8192 .bf16 := Host.absf main_arg1
  let main_cst_0 : FVec F S_ .bf16 := constant S_ .bf16 0x7F80#16
  let main_v4 : FVec F S768x8192 .bf16 := broadcastInDim S768x8192 ![] bcast_S_S768x8192 main_cst_0
  let main_v5 : IVec S768x8192 1 := cmpf .olt main_v3 main_v4
  let main_v6 : FVec F S2x512x128x64 .bf16 := Host.absf main_arg2
  let main_cst_1 : FVec F S_ .bf16 := constant S_ .bf16 0x7F80#16
  let main_v7 : FVec F S2x512x128x64 .bf16 := broadcastInDim S2x512x128x64 ![] bcast_S_S2x512x128x64 main_cst_1
  let main_v8 : IVec S2x512x128x64 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S16x2x32x384 : Shape := ⟨4, ![16, 2, 32, 384]⟩
abbrev S8x2x32x384 : Shape := ⟨4, ![8, 2, 32, 384]⟩
abbrev S15x2x32x384 : Shape := ⟨4, ![15, 2, 32, 384]⟩
abbrev S4 : Shape := ⟨1, ![4]⟩
abbrev S_ : Shape := ⟨0, ![]⟩
abbrev S512x512 : Shape := ⟨2, ![512, 512]⟩
abbrev S1x512x768 : Shape := ⟨3, ![1, 512, 768]⟩
abbrev S512x64 : Shape := ⟨2, ![512, 64]⟩
abbrev S1x512x1x64 : Shape := ⟨4, ![1, 512, 1, 64]⟩
abbrev S512 : Shape := ⟨1, ![512]⟩
abbrev S512x1 : Shape := ⟨2, ![512, 1]⟩
abbrev S32x384 : Shape := ⟨2, ![32, 384]⟩
abbrev S1x1x32x384 : Shape := ⟨4, ![1, 1, 32, 384]⟩
abbrev S1 : Shape := ⟨1, ![1]⟩
abbrev S4x2x32x384 : Shape := ⟨4, ![4, 2, 32, 384]⟩
abbrev S2x2x32x384 : Shape := ⟨4, ![2, 2, 32, 384]⟩
abbrev S1x2x32x384 : Shape := ⟨4, ![1, 2, 32, 384]⟩
abbrev S2x32x384 : Shape := ⟨3, ![2, 32, 384]⟩

abbrev nBuf : Space → Nat
  | .hbm => 6
  | .vmem => 14
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x8x64, .bf16⟩
  | .hbm, ⟨3, _⟩ => ⟨S2x512x8x64, .bf16⟩
  | .hbm, ⟨4, _⟩ => ⟨S512x768, .bf16⟩
  | .hbm, ⟨5, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x512x8x64, .bf16⟩
  | .local _ .vmem, ⟨3, _⟩ => ⟨S2x512x8x64, .bf16⟩
  | .local _ .vmem, ⟨4, _⟩ => ⟨S512x768, .bf16⟩
  | .local _ .vmem, ⟨5, _⟩ => ⟨S2x512x768, .f32⟩
  | .local _ .vmem, ⟨6, _⟩ => ⟨S16x2x32x384, .f32⟩
  | .local _ .vmem, ⟨7, _⟩ => ⟨S16x2x32x384, .f32⟩
  | .local _ .vmem, ⟨8, _⟩ => ⟨S8x2x32x384, .bf16⟩
  | .local _ .vmem, ⟨9, _⟩ => ⟨S8x2x32x384, .bf16⟩
  | .local _ .vmem, ⟨10, _⟩ => ⟨S15x2x32x384, .bf16⟩
  | .local _ .vmem, ⟨11, _⟩ => ⟨S15x2x32x384, .bf16⟩
  | .local _ .vmem, ⟨12, _⟩ => ⟨S16x2x32x384, .bf16⟩
  | .local _ .vmem, ⟨13, _⟩ => ⟨S16x2x32x384, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_off1 (d0 : Dev nD) (c0_i32_487 : BitVec 32) : Fin 4 → Nat :=
  let c0_i32_504 : BitVec 32 := 0#32
  let c1_i32_502 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v613 : BitVec 32 := Scalar.shrui v2 c0_i32_487
  let c1_i32_488 : BitVec 32 := 1#32
  let v614 : BitVec 32 := Scalar.andi v613 c1_i32_488
  let v629 : BitVec 32 := Scalar.subi c1_i32_502 v614
  let c8_i32_503 : BitVec 32 := 8#32
  let v630 : BitVec 32 := Scalar.muli v629 c8_i32_503
  let v631 : BitVec 32 := Scalar.addi c0_i32_504 v630
  let v632 : Index := Scalar.indexCast v631
  let c0_505 : Index := 0#32
  let c0_506 : Index := 0#32
  let c0_507 : Index := 0#32
  ![v632.toNat, 0, 0, 0]
def k0_dev5 (d0 : Dev nD) : Nat :=
  let c0_i32_516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_512 : BitVec 32 := 1#32
  let v638 : BitVec 32 := Scalar.xori v2 c1_i32_512
  let c1_i32_515 : BitVec 32 := 1#32
  let v639 : BitVec 32 := Scalar.muli v638 c1_i32_515
  let v640 : BitVec 32 := Scalar.addi c0_i32_516 v639
  v640.toNat
def k0_dev6 (d0 : Dev nD) : Nat :=
  let c0_i32_539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_535 : BitVec 32 := 4#32
  let v656 : BitVec 32 := Scalar.xori v2 c4_i32_535
  let c1_i32_538 : BitVec 32 := 1#32
  let v657 : BitVec 32 := Scalar.muli v656 c1_i32_538
  let v658 : BitVec 32 := Scalar.addi c0_i32_539 v657
  v658.toNat
def k0_off2 (d0 : Dev nD) (c0_i32_487 : BitVec 32) : Fin 4 → Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v613 : BitVec 32 := Scalar.shrui v2 c0_i32_487
  let c1_i32_488 : BitVec 32 := 1#32
  let v614 : BitVec 32 := Scalar.andi v613 c1_i32_488
  let c8_i32_571 : BitVec 32 := 8#32
  let v675 : BitVec 32 := Scalar.muli v614 c8_i32_571
  let v676 : BitVec 32 := Scalar.addi c0_i32_572 v675
  let v677 : Index := Scalar.indexCast v676
  let c0_573 : Index := 0#32
  let c0_574 : Index := 0#32
  let c0_575 : Index := 0#32
  ![v677.toNat, 0, 0, 0]
def k0_off3 (d0 : Dev nD) (c0_i32_487 : BitVec 32) (c2_i32_489 : BitVec 32) : Fin 4 → Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v613 : BitVec 32 := Scalar.shrui v2 c0_i32_487
  let c1_i32_488 : BitVec 32 := 1#32
  let v614 : BitVec 32 := Scalar.andi v613 c1_i32_488
  let c8_i32_571 : BitVec 32 := 8#32
  let v675 : BitVec 32 := Scalar.muli v614 c8_i32_571
  let v676 : BitVec 32 := Scalar.addi c0_i32_572 v675
  let c1_i32_618 : BitVec 32 := 1#32
  let v615 : BitVec 32 := Scalar.shrui v2 c2_i32_489
  let c1_i32_490 : BitVec 32 := 1#32
  let v616 : BitVec 32 := Scalar.andi v615 c1_i32_490
  let v707 : BitVec 32 := Scalar.subi c1_i32_618 v616
  let c4_i32_619 : BitVec 32 := 4#32
  let v708 : BitVec 32 := Scalar.muli v707 c4_i32_619
  let v709 : BitVec 32 := Scalar.addi v676 v708
  let v710 : Index := Scalar.indexCast v709
  let c0_620 : Index := 0#32
  let c0_621 : Index := 0#32
  let c0_622 : Index := 0#32
  ![v710.toNat, 0, 0, 0]
def k0_off3_at (r : Fin 2) : BitVec 32 × BitVec 32 :=
  if r.val < 1 then
    (0#32, 2#32)
  else
    (2#32, 0#32)
def k0_dev7 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_627 : BitVec 32 := 4#32
  let v716 : BitVec 32 := Scalar.xori v2 c4_i32_627
  let c1_i32_630 : BitVec 32 := 1#32
  let v717 : BitVec 32 := Scalar.muli v716 c1_i32_630
  let v718 : BitVec 32 := Scalar.addi c0_i32_631 v717
  v718.toNat
def k0_dev8 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_649 : BitVec 32 := 1#32
  let v734 : BitVec 32 := Scalar.xori v2 c1_i32_649
  let c1_i32_652 : BitVec 32 := 1#32
  let v735 : BitVec 32 := Scalar.muli v734 c1_i32_652
  let v736 : BitVec 32 := Scalar.addi c0_i32_653 v735
  v736.toNat
def k0_off4 (d0 : Dev nD) (c0_i32_487 : BitVec 32) (c2_i32_489 : BitVec 32) : Fin 4 → Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v613 : BitVec 32 := Scalar.shrui v2 c0_i32_487
  let c1_i32_488 : BitVec 32 := 1#32
  let v614 : BitVec 32 := Scalar.andi v613 c1_i32_488
  let c8_i32_571 : BitVec 32 := 8#32
  let v675 : BitVec 32 := Scalar.muli v614 c8_i32_571
  let v676 : BitVec 32 := Scalar.addi c0_i32_572 v675
  let v615 : BitVec 32 := Scalar.shrui v2 c2_i32_489
  let c1_i32_490 : BitVec 32 := 1#32
  let v616 : BitVec 32 := Scalar.andi v615 c1_i32_490
  let c4_i32_685 : BitVec 32 := 4#32
  let v753 : BitVec 32 := Scalar.muli v616 c4_i32_685
  let v754 : BitVec 32 := Scalar.addi v676 v753
  let v755 : Index := Scalar.indexCast v754
  let c0_686 : Index := 0#32
  let c0_687 : Index := 0#32
  let c0_688 : Index := 0#32
  ![v755.toNat, 0, 0, 0]
def k0_off4_at (r : Fin 2) : BitVec 32 × BitVec 32 :=
  if r.val < 1 then
    (0#32, 2#32)
  else
    (2#32, 0#32)
def k0_off5 (d0 : Dev nD) (c0_i32_487 : BitVec 32) (c2_i32_489 : BitVec 32) (c1_i32_491 : BitVec 32) : Fin 4 → Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v613 : BitVec 32 := Scalar.shrui v2 c0_i32_487
  let c1_i32_488 : BitVec 32 := 1#32
  let v614 : BitVec 32 := Scalar.andi v613 c1_i32_488
  let c8_i32_571 : BitVec 32 := 8#32
  let v675 : BitVec 32 := Scalar.muli v614 c8_i32_571
  let v676 : BitVec 32 := Scalar.addi c0_i32_572 v675
  let v615 : BitVec 32 := Scalar.shrui v2 c2_i32_489
  let c1_i32_490 : BitVec 32 := 1#32
  let v616 : BitVec 32 := Scalar.andi v615 c1_i32_490
  let c4_i32_685 : BitVec 32 := 4#32
  let v753 : BitVec 32 := Scalar.muli v616 c4_i32_685
  let v754 : BitVec 32 := Scalar.addi v676 v753
  let c1_i32_730 : BitVec 32 := 1#32
  let v617 : BitVec 32 := Scalar.shrui v2 c1_i32_491
  let c1_i32_492 : BitVec 32 := 1#32
  let v618 : BitVec 32 := Scalar.andi v617 c1_i32_492
  let v785 : BitVec 32 := Scalar.subi c1_i32_730 v618
  let c2_i32_731 : BitVec 32 := 2#32
  let v786 : BitVec 32 := Scalar.muli v785 c2_i32_731
  let v787 : BitVec 32 := Scalar.addi v754 v786
  let v788 : Index := Scalar.indexCast v787
  let c0_732 : Index := 0#32
  let c0_733 : Index := 0#32
  let c0_734 : Index := 0#32
  ![v788.toNat, 0, 0, 0]
def k0_off5_at (r : Fin 2) : BitVec 32 × BitVec 32 × BitVec 32 :=
  if r.val < 1 then
    (0#32, 2#32, 1#32)
  else
    (2#32, 0#32, 3#32)
def k0_dev9 (d0 : Dev nD) : Nat :=
  let c0_i32_743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_739 : BitVec 32 := 2#32
  let v794 : BitVec 32 := Scalar.xori v2 c2_i32_739
  let c1_i32_742 : BitVec 32 := 1#32
  let v795 : BitVec 32 := Scalar.muli v794 c1_i32_742
  let v796 : BitVec 32 := Scalar.addi c0_i32_743 v795
  v796.toNat
def k0_dev10 (d0 : Dev nD) : Nat :=
  let c0_i32_764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_760 : BitVec 32 := 8#32
  let v812 : BitVec 32 := Scalar.xori v2 c8_i32_760
  let c1_i32_763 : BitVec 32 := 1#32
  let v813 : BitVec 32 := Scalar.muli v812 c1_i32_763
  let v814 : BitVec 32 := Scalar.addi c0_i32_764 v813
  v814.toNat
def k0_off6 (d0 : Dev nD) (c0_i32_487 : BitVec 32) (c2_i32_489 : BitVec 32) (c1_i32_491 : BitVec 32) : Fin 4 → Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v613 : BitVec 32 := Scalar.shrui v2 c0_i32_487
  let c1_i32_488 : BitVec 32 := 1#32
  let v614 : BitVec 32 := Scalar.andi v613 c1_i32_488
  let c8_i32_571 : BitVec 32 := 8#32
  let v675 : BitVec 32 := Scalar.muli v614 c8_i32_571
  let v676 : BitVec 32 := Scalar.addi c0_i32_572 v675
  let v615 : BitVec 32 := Scalar.shrui v2 c2_i32_489
  let c1_i32_490 : BitVec 32 := 1#32
  let v616 : BitVec 32 := Scalar.andi v615 c1_i32_490
  let c4_i32_685 : BitVec 32 := 4#32
  let v753 : BitVec 32 := Scalar.muli v616 c4_i32_685
  let v754 : BitVec 32 := Scalar.addi v676 v753
  let v617 : BitVec 32 := Scalar.shrui v2 c1_i32_491
  let c1_i32_492 : BitVec 32 := 1#32
  let v618 : BitVec 32 := Scalar.andi v617 c1_i32_492
  let c2_i32_796 : BitVec 32 := 2#32
  let v831 : BitVec 32 := Scalar.muli v618 c2_i32_796
  let v832 : BitVec 32 := Scalar.addi v754 v831
  let v833 : Index := Scalar.indexCast v832
  let c0_797 : Index := 0#32
  let c0_798 : Index := 0#32
  let c0_799 : Index := 0#32
  ![v833.toNat, 0, 0, 0]
def k0_off6_at (r : Fin 2) : BitVec 32 × BitVec 32 × BitVec 32 :=
  if r.val < 1 then
    (0#32, 2#32, 1#32)
  else
    (2#32, 0#32, 3#32)
def k0_off7 (d0 : Dev nD) (c0_i32_487 : BitVec 32) (c2_i32_489 : BitVec 32) (c1_i32_491 : BitVec 32) (c3_i32 : BitVec 32) : Fin 4 → Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v613 : BitVec 32 := Scalar.shrui v2 c0_i32_487
  let c1_i32_488 : BitVec 32 := 1#32
  let v614 : BitVec 32 := Scalar.andi v613 c1_i32_488
  let c8_i32_571 : BitVec 32 := 8#32
  let v675 : BitVec 32 := Scalar.muli v614 c8_i32_571
  let v676 : BitVec 32 := Scalar.addi c0_i32_572 v675
  let v615 : BitVec 32 := Scalar.shrui v2 c2_i32_489
  let c1_i32_490 : BitVec 32 := 1#32
  let v616 : BitVec 32 := Scalar.andi v615 c1_i32_490
  let c4_i32_685 : BitVec 32 := 4#32
  let v753 : BitVec 32 := Scalar.muli v616 c4_i32_685
  let v754 : BitVec 32 := Scalar.addi v676 v753
  let v617 : BitVec 32 := Scalar.shrui v2 c1_i32_491
  let c1_i32_492 : BitVec 32 := 1#32
  let v618 : BitVec 32 := Scalar.andi v617 c1_i32_492
  let c2_i32_796 : BitVec 32 := 2#32
  let v831 : BitVec 32 := Scalar.muli v618 c2_i32_796
  let v832 : BitVec 32 := Scalar.addi v754 v831
  let c1_i32_841 : BitVec 32 := 1#32
  let v619 : BitVec 32 := Scalar.shrui v2 c3_i32
  let c1_i32_493 : BitVec 32 := 1#32
  let v620 : BitVec 32 := Scalar.andi v619 c1_i32_493
  let v863 : BitVec 32 := Scalar.subi c1_i32_841 v620
  let c1_i32_842 : BitVec 32 := 1#32
  let v864 : BitVec 32 := Scalar.muli v863 c1_i32_842
  let v865 : BitVec 32 := Scalar.addi v832 v864
  let v866 : Index := Scalar.indexCast v865
  let c0_843 : Index := 0#32
  let c0_844 : Index := 0#32
  let c0_845 : Index := 0#32
  ![v866.toNat, 0, 0, 0]
def k0_off7_at (r : Fin 2) : BitVec 32 × BitVec 32 × BitVec 32 × BitVec 32 :=
  if r.val < 1 then
    (0#32, 2#32, 1#32, 3#32)
  else
    (2#32, 0#32, 3#32, 1#32)
def k0_dev11 (d0 : Dev nD) : Nat :=
  let c0_i32_854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_850 : BitVec 32 := 8#32
  let v872 : BitVec 32 := Scalar.xori v2 c8_i32_850
  let c1_i32_853 : BitVec 32 := 1#32
  let v873 : BitVec 32 := Scalar.muli v872 c1_i32_853
  let v874 : BitVec 32 := Scalar.addi c0_i32_854 v873
  v874.toNat
def k0_dev12 (d0 : Dev nD) : Nat :=
  let c0_i32_875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_871 : BitVec 32 := 2#32
  let v890 : BitVec 32 := Scalar.xori v2 c2_i32_871
  let c1_i32_874 : BitVec 32 := 1#32
  let v891 : BitVec 32 := Scalar.muli v890 c1_i32_874
  let v892 : BitVec 32 := Scalar.addi c0_i32_875 v891
  v892.toNat
def k0_off8 (d0 : Dev nD) (c0_i32_487 : BitVec 32) (c2_i32_489 : BitVec 32) (c1_i32_491 : BitVec 32) (c3_i32 : BitVec 32) : Fin 4 → Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v613 : BitVec 32 := Scalar.shrui v2 c0_i32_487
  let c1_i32_488 : BitVec 32 := 1#32
  let v614 : BitVec 32 := Scalar.andi v613 c1_i32_488
  let c8_i32_571 : BitVec 32 := 8#32
  let v675 : BitVec 32 := Scalar.muli v614 c8_i32_571
  let v676 : BitVec 32 := Scalar.addi c0_i32_572 v675
  let v615 : BitVec 32 := Scalar.shrui v2 c2_i32_489
  let c1_i32_490 : BitVec 32 := 1#32
  let v616 : BitVec 32 := Scalar.andi v615 c1_i32_490
  let c4_i32_685 : BitVec 32 := 4#32
  let v753 : BitVec 32 := Scalar.muli v616 c4_i32_685
  let v754 : BitVec 32 := Scalar.addi v676 v753
  let v617 : BitVec 32 := Scalar.shrui v2 c1_i32_491
  let c1_i32_492 : BitVec 32 := 1#32
  let v618 : BitVec 32 := Scalar.andi v617 c1_i32_492
  let c2_i32_796 : BitVec 32 := 2#32
  let v831 : BitVec 32 := Scalar.muli v618 c2_i32_796
  let v832 : BitVec 32 := Scalar.addi v754 v831
  let v619 : BitVec 32 := Scalar.shrui v2 c3_i32
  let c1_i32_493 : BitVec 32 := 1#32
  let v620 : BitVec 32 := Scalar.andi v619 c1_i32_493
  let c1_i32_907 : BitVec 32 := 1#32
  let v909 : BitVec 32 := Scalar.muli v620 c1_i32_907
  let v910 : BitVec 32 := Scalar.addi v832 v909
  let v911 : Index := Scalar.indexCast v910
  let c0_908 : Index := 0#32
  let c0_909 : Index := 0#32
  let c0_910 : Index := 0#32
  ![v911.toNat, 0, 0, 0]
def k0_off8_at (r : Fin 2) : BitVec 32 × BitVec 32 × BitVec 32 × BitVec 32 :=
  if r.val < 1 then
    (0#32, 2#32, 1#32, 3#32)
  else
    (2#32, 0#32, 3#32, 1#32)
def k0_off9 (d0 : Dev nD) (c0_i32_487 : BitVec 32) (c2_i32_489 : BitVec 32) (c1_i32_491 : BitVec 32) (c3_i32 : BitVec 32) : Fin 4 → Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v613 : BitVec 32 := Scalar.shrui v2 c0_i32_487
  let c1_i32_488 : BitVec 32 := 1#32
  let v614 : BitVec 32 := Scalar.andi v613 c1_i32_488
  let c8_i32_571 : BitVec 32 := 8#32
  let v675 : BitVec 32 := Scalar.muli v614 c8_i32_571
  let v676 : BitVec 32 := Scalar.addi c0_i32_572 v675
  let v615 : BitVec 32 := Scalar.shrui v2 c2_i32_489
  let c1_i32_490 : BitVec 32 := 1#32
  let v616 : BitVec 32 := Scalar.andi v615 c1_i32_490
  let c4_i32_685 : BitVec 32 := 4#32
  let v753 : BitVec 32 := Scalar.muli v616 c4_i32_685
  let v754 : BitVec 32 := Scalar.addi v676 v753
  let v617 : BitVec 32 := Scalar.shrui v2 c1_i32_491
  let c1_i32_492 : BitVec 32 := 1#32
  let v618 : BitVec 32 := Scalar.andi v617 c1_i32_492
  let c2_i32_796 : BitVec 32 := 2#32
  let v831 : BitVec 32 := Scalar.muli v618 c2_i32_796
  let v832 : BitVec 32 := Scalar.addi v754 v831
  let v619 : BitVec 32 := Scalar.shrui v2 c3_i32
  let c1_i32_493 : BitVec 32 := 1#32
  let v620 : BitVec 32 := Scalar.andi v619 c1_i32_493
  let c1_i32_907 : BitVec 32 := 1#32
  let v909 : BitVec 32 := Scalar.muli v620 c1_i32_907
  let v910 : BitVec 32 := Scalar.addi v832 v909
  let c0_i32_969 : BitVec 32 := 0#32
  let c0_i32_970 : BitVec 32 := 0#32
  let c0_i32_971 : BitVec 32 := 0#32
  ![v910.toNat, 0, 0, 0]
def k0_off9_at (r : Fin 2) : BitVec 32 × BitVec 32 × BitVec 32 × BitVec 32 :=
  if r.val < 1 then
    (0#32, 2#32, 1#32, 3#32)
  else
    (2#32, 0#32, 3#32, 1#32)
def k0_dev13 (d0 : Dev nD) : Nat :=
  let c0_i32_968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_964 : BitVec 32 := 8#32
  let v955 : BitVec 32 := Scalar.xori v2 c8_i32_964
  let c1_i32_967 : BitVec 32 := 1#32
  let v956 : BitVec 32 := Scalar.muli v955 c1_i32_967
  let v957 : BitVec 32 := Scalar.addi c0_i32_968 v956
  v957.toNat
def k0_dev14 (d0 : Dev nD) : Nat :=
  let c0_i32_979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_975 : BitVec 32 := 2#32
  let v964 : BitVec 32 := Scalar.xori v2 c2_i32_975
  let c1_i32_978 : BitVec 32 := 1#32
  let v965 : BitVec 32 := Scalar.muli v964 c1_i32_978
  let v966 : BitVec 32 := Scalar.addi c0_i32_979 v965
  v966.toNat
def k0_off10 (d0 : Dev nD) (c0_i32_487 : BitVec 32) (c2_i32_489 : BitVec 32) (c1_i32_491 : BitVec 32) (c3_i32 : BitVec 32) : Fin 4 → Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v613 : BitVec 32 := Scalar.shrui v2 c0_i32_487
  let c1_i32_488 : BitVec 32 := 1#32
  let v614 : BitVec 32 := Scalar.andi v613 c1_i32_488
  let c8_i32_571 : BitVec 32 := 8#32
  let v675 : BitVec 32 := Scalar.muli v614 c8_i32_571
  let v676 : BitVec 32 := Scalar.addi c0_i32_572 v675
  let v615 : BitVec 32 := Scalar.shrui v2 c2_i32_489
  let c1_i32_490 : BitVec 32 := 1#32
  let v616 : BitVec 32 := Scalar.andi v615 c1_i32_490
  let c4_i32_685 : BitVec 32 := 4#32
  let v753 : BitVec 32 := Scalar.muli v616 c4_i32_685
  let v754 : BitVec 32 := Scalar.addi v676 v753
  let v617 : BitVec 32 := Scalar.shrui v2 c1_i32_491
  let c1_i32_492 : BitVec 32 := 1#32
  let v618 : BitVec 32 := Scalar.andi v617 c1_i32_492
  let c2_i32_796 : BitVec 32 := 2#32
  let v831 : BitVec 32 := Scalar.muli v618 c2_i32_796
  let v832 : BitVec 32 := Scalar.addi v754 v831
  let v619 : BitVec 32 := Scalar.shrui v2 c3_i32
  let c1_i32_493 : BitVec 32 := 1#32
  let v620 : BitVec 32 := Scalar.andi v619 c1_i32_493
  let c1_i32_907 : BitVec 32 := 1#32
  let v909 : BitVec 32 := Scalar.muli v620 c1_i32_907
  let v910 : BitVec 32 := Scalar.addi v832 v909
  let c0_i32_1005 : BitVec 32 := 0#32
  let v983 : BitVec 32 := Scalar.shrui v910 c0_i32_1005
  let c1_i32_1006 : BitVec 32 := 1#32
  let v984 : BitVec 32 := Scalar.xori v983 c1_i32_1006
  let c0_i32_1007 : BitVec 32 := 0#32
  let v985 : BitVec 32 := Scalar.shli v984 c0_i32_1007
  let v986 : BitVec 32 := Scalar.minsi v910 v985
  let c0_i32_1035 : BitVec 32 := 0#32
  let c0_i32_1036 : BitVec 32 := 0#32
  let c0_i32_1037 : BitVec 32 := 0#32
  ![v986.toNat, 0, 0, 0]
def k0_off10_at (r : Fin 2) : BitVec 32 × BitVec 32 × BitVec 32 × BitVec 32 :=
  if r.val < 1 then
    (0#32, 2#32, 1#32, 3#32)
  else
    (2#32, 0#32, 3#32, 1#32)
def k0_dev15 (d0 : Dev nD) : Nat :=
  let c0_i32_1034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1030 : BitVec 32 := 2#32
  let v1001 : BitVec 32 := Scalar.xori v2 c2_i32_1030
  let c1_i32_1033 : BitVec 32 := 1#32
  let v1002 : BitVec 32 := Scalar.muli v1001 c1_i32_1033
  let v1003 : BitVec 32 := Scalar.addi c0_i32_1034 v1002
  v1003.toNat
def k0_dev16 (d0 : Dev nD) : Nat :=
  let c0_i32_1045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1041 : BitVec 32 := 8#32
  let v1010 : BitVec 32 := Scalar.xori v2 c8_i32_1041
  let c1_i32_1044 : BitVec 32 := 1#32
  let v1011 : BitVec 32 := Scalar.muli v1010 c1_i32_1044
  let v1012 : BitVec 32 := Scalar.addi c0_i32_1045 v1011
  v1012.toNat
def k0_off11 (d0 : Dev nD) (c0_i32_487 : BitVec 32) (c2_i32_489 : BitVec 32) (c1_i32_491 : BitVec 32) (c3_i32 : BitVec 32) : Fin 4 → Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v613 : BitVec 32 := Scalar.shrui v2 c0_i32_487
  let c1_i32_488 : BitVec 32 := 1#32
  let v614 : BitVec 32 := Scalar.andi v613 c1_i32_488
  let c8_i32_571 : BitVec 32 := 8#32
  let v675 : BitVec 32 := Scalar.muli v614 c8_i32_571
  let v676 : BitVec 32 := Scalar.addi c0_i32_572 v675
  let v615 : BitVec 32 := Scalar.shrui v2 c2_i32_489
  let c1_i32_490 : BitVec 32 := 1#32
  let v616 : BitVec 32 := Scalar.andi v615 c1_i32_490
  let c4_i32_685 : BitVec 32 := 4#32
  let v753 : BitVec 32 := Scalar.muli v616 c4_i32_685
  let v754 : BitVec 32 := Scalar.addi v676 v753
  let v617 : BitVec 32 := Scalar.shrui v2 c1_i32_491
  let c1_i32_492 : BitVec 32 := 1#32
  let v618 : BitVec 32 := Scalar.andi v617 c1_i32_492
  let c2_i32_796 : BitVec 32 := 2#32
  let v831 : BitVec 32 := Scalar.muli v618 c2_i32_796
  let v832 : BitVec 32 := Scalar.addi v754 v831
  let v619 : BitVec 32 := Scalar.shrui v2 c3_i32
  let c1_i32_493 : BitVec 32 := 1#32
  let v620 : BitVec 32 := Scalar.andi v619 c1_i32_493
  let c1_i32_907 : BitVec 32 := 1#32
  let v909 : BitVec 32 := Scalar.muli v620 c1_i32_907
  let v910 : BitVec 32 := Scalar.addi v832 v909
  let c0_i32_1005 : BitVec 32 := 0#32
  let v983 : BitVec 32 := Scalar.shrui v910 c0_i32_1005
  let c1_i32_1006 : BitVec 32 := 1#32
  let v984 : BitVec 32 := Scalar.xori v983 c1_i32_1006
  let c0_i32_1007 : BitVec 32 := 0#32
  let v985 : BitVec 32 := Scalar.shli v984 c0_i32_1007
  let v986 : BitVec 32 := Scalar.minsi v910 v985
  let c1_i32_1071 : BitVec 32 := 1#32
  let v1029 : BitVec 32 := Scalar.shrui v986 c1_i32_1071
  let c1_i32_1072 : BitVec 32 := 1#32
  let v1030 : BitVec 32 := Scalar.xori v1029 c1_i32_1072
  let c1_i32_1073 : BitVec 32 := 1#32
  let v1031 : BitVec 32 := Scalar.shli v1030 c1_i32_1073
  let v1032 : BitVec 32 := Scalar.minsi v986 v1031
  let c0_i32_1101 : BitVec 32 := 0#32
  let c0_i32_1102 : BitVec 32 := 0#32
  let c0_i32_1103 : BitVec 32 := 0#32
  ![v1032.toNat, 0, 0, 0]
def k0_off11_at (r : Fin 2) : BitVec 32 × BitVec 32 × BitVec 32 × BitVec 32 :=
  if r.val < 1 then
    (0#32, 2#32, 1#32, 3#32)
  else
    (2#32, 0#32, 3#32, 1#32)
def k0_dev17 (d0 : Dev nD) : Nat :=
  let c0_i32_1100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1096 : BitVec 32 := 4#32
  let v1047 : BitVec 32 := Scalar.xori v2 c4_i32_1096
  let c1_i32_1099 : BitVec 32 := 1#32
  let v1048 : BitVec 32 := Scalar.muli v1047 c1_i32_1099
  let v1049 : BitVec 32 := Scalar.addi c0_i32_1100 v1048
  v1049.toNat
def k0_dev18 (d0 : Dev nD) : Nat :=
  let c0_i32_1111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1107 : BitVec 32 := 1#32
  let v1056 : BitVec 32 := Scalar.xori v2 c1_i32_1107
  let c1_i32_1110 : BitVec 32 := 1#32
  let v1057 : BitVec 32 := Scalar.muli v1056 c1_i32_1110
  let v1058 : BitVec 32 := Scalar.addi c0_i32_1111 v1057
  v1058.toNat
def k0_off12 (d0 : Dev nD) (c0_i32_487 : BitVec 32) (c2_i32_489 : BitVec 32) (c1_i32_491 : BitVec 32) (c3_i32 : BitVec 32) : Fin 4 → Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v613 : BitVec 32 := Scalar.shrui v2 c0_i32_487
  let c1_i32_488 : BitVec 32 := 1#32
  let v614 : BitVec 32 := Scalar.andi v613 c1_i32_488
  let c8_i32_571 : BitVec 32 := 8#32
  let v675 : BitVec 32 := Scalar.muli v614 c8_i32_571
  let v676 : BitVec 32 := Scalar.addi c0_i32_572 v675
  let v615 : BitVec 32 := Scalar.shrui v2 c2_i32_489
  let c1_i32_490 : BitVec 32 := 1#32
  let v616 : BitVec 32 := Scalar.andi v615 c1_i32_490
  let c4_i32_685 : BitVec 32 := 4#32
  let v753 : BitVec 32 := Scalar.muli v616 c4_i32_685
  let v754 : BitVec 32 := Scalar.addi v676 v753
  let v617 : BitVec 32 := Scalar.shrui v2 c1_i32_491
  let c1_i32_492 : BitVec 32 := 1#32
  let v618 : BitVec 32 := Scalar.andi v617 c1_i32_492
  let c2_i32_796 : BitVec 32 := 2#32
  let v831 : BitVec 32 := Scalar.muli v618 c2_i32_796
  let v832 : BitVec 32 := Scalar.addi v754 v831
  let v619 : BitVec 32 := Scalar.shrui v2 c3_i32
  let c1_i32_493 : BitVec 32 := 1#32
  let v620 : BitVec 32 := Scalar.andi v619 c1_i32_493
  let c1_i32_907 : BitVec 32 := 1#32
  let v909 : BitVec 32 := Scalar.muli v620 c1_i32_907
  let v910 : BitVec 32 := Scalar.addi v832 v909
  let c0_i32_1005 : BitVec 32 := 0#32
  let v983 : BitVec 32 := Scalar.shrui v910 c0_i32_1005
  let c1_i32_1006 : BitVec 32 := 1#32
  let v984 : BitVec 32 := Scalar.xori v983 c1_i32_1006
  let c0_i32_1007 : BitVec 32 := 0#32
  let v985 : BitVec 32 := Scalar.shli v984 c0_i32_1007
  let v986 : BitVec 32 := Scalar.minsi v910 v985
  let c1_i32_1071 : BitVec 32 := 1#32
  let v1029 : BitVec 32 := Scalar.shrui v986 c1_i32_1071
  let c1_i32_1072 : BitVec 32 := 1#32
  let v1030 : BitVec 32 := Scalar.xori v1029 c1_i32_1072
  let c1_i32_1073 : BitVec 32 := 1#32
  let v1031 : BitVec 32 := Scalar.shli v1030 c1_i32_1073
  let v1032 : BitVec 32 := Scalar.minsi v986 v1031
  let c2_i32_1137 : BitVec 32 := 2#32
  let v1075 : BitVec 32 := Scalar.shrui v1032 c2_i32_1137
  let c1_i32_1138 : BitVec 32 := 1#32
  let v1076 : BitVec 32 := Scalar.xori v1075 c1_i32_1138
  let c2_i32_1139 : BitVec 32 := 2#32
  let v1077 : BitVec 32 := Scalar.shli v1076 c2_i32_1139
  let v1078 : BitVec 32 := Scalar.minsi v1032 v1077
  let c0_i32_1167 : BitVec 32 := 0#32
  let c0_i32_1168 : BitVec 32 := 0#32
  let c0_i32_1169 : BitVec 32 := 0#32
  ![v1078.toNat, 0, 0, 0]
def k0_off12_at (r : Fin 2) : BitVec 32 × BitVec 32 × BitVec 32 × BitVec 32 :=
  if r.val < 1 then
    (0#32, 2#32, 1#32, 3#32)
  else
    (2#32, 0#32, 3#32, 1#32)
def k0_dev19 (d0 : Dev nD) : Nat :=
  let c0_i32_1166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1162 : BitVec 32 := 1#32
  let v1093 : BitVec 32 := Scalar.xori v2 c1_i32_1162
  let c1_i32_1165 : BitVec 32 := 1#32
  let v1094 : BitVec 32 := Scalar.muli v1093 c1_i32_1165
  let v1095 : BitVec 32 := Scalar.addi c0_i32_1166 v1094
  v1095.toNat
def k0_dev20 (d0 : Dev nD) : Nat :=
  let c0_i32_1177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1173 : BitVec 32 := 4#32
  let v1102 : BitVec 32 := Scalar.xori v2 c4_i32_1173
  let c1_i32_1176 : BitVec 32 := 1#32
  let v1103 : BitVec 32 := Scalar.muli v1102 c1_i32_1176
  let v1104 : BitVec 32 := Scalar.addi c0_i32_1177 v1103
  v1104.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S2x512x8192 : Shape := ⟨3, ![2, 512, 8192]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x128x512x512 : Shape := ⟨4, ![2, 128, 512, 512]⟩
abbrev S1x1x512x512 : Shape := ⟨4, ![1, 1, 512, 512]⟩
abbrev S2x128x512 : Shape := ⟨3, ![2, 128, 512]⟩
abbrev S2x128x512x1 : Shape := ⟨4, ![2, 128, 512, 1]⟩
abbrev S1x1x512x1 : Shape := ⟨4, ![1, 1, 512, 1]⟩
abbrev S2x128x64x512 : Shape := ⟨4, ![2, 128, 64, 512]⟩

abbrev nBuf : Space → Nat
  | .hbm => 98
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x8192, .bf16⟩
  | .hbm, ⟨2, _⟩ => ⟨S2x512x128x64, .bf16⟩
  | .hbm, ⟨3, _⟩ => ⟨S2x512x128x64, .bf16⟩
  | .hbm, ⟨4, _⟩ => ⟨S8192x768, .bf16⟩
  | .hbm, ⟨5, _⟩ => ⟨S2x512x768, .f32⟩
  | .hbm, ⟨6, _⟩ => ⟨S768x8192, .f32⟩
  | .hbm, ⟨7, _⟩ => ⟨S2x512x8192, .f32⟩
  | .hbm, ⟨8, _⟩ => ⟨S2x512x8192, .bf16⟩
  | .hbm, ⟨9, _⟩ => ⟨S2x512x128x64, .bf16⟩
  | .hbm, ⟨10, _⟩ => ⟨S512, .i32⟩
  | .hbm, ⟨11, _⟩ => ⟨S_, .i32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512, .i1⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S512x1, .i32⟩
  | .hbm, ⟨30, _⟩ => ⟨S512, .i32⟩
  | .hbm, ⟨31, _⟩ => ⟨S_, .i32⟩
  | .hbm, ⟨32, _⟩ => ⟨S_, .i32⟩
  | .hbm, ⟨33, _⟩ => ⟨S512, .i32⟩
  | .hbm, ⟨34, _⟩ => ⟨S512, .i32⟩
  | .hbm, ⟨35, _⟩ => ⟨S512, .i32⟩
  | .hbm, ⟨36, _⟩ => ⟨S_, .i32⟩
  | .hbm, ⟨37, _⟩ => ⟨S512, .i32⟩
  | .hbm, ⟨38, _⟩ => ⟨S512, .i1⟩
  | .hbm, ⟨39, _⟩ => ⟨S512, .i32⟩
  | .hbm, ⟨40, _⟩ => ⟨S512, .i32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S512, .i1⟩
  | .hbm, ⟨45, _⟩ => ⟨S_, .i32⟩
  | .hbm, ⟨46, _⟩ => ⟨S512, .i32⟩
  | .hbm, ⟨47, _⟩ => ⟨S512, .i32⟩
  | .hbm, ⟨48, _⟩ => ⟨S512, .i32⟩
  | .hbm, ⟨49, _⟩ => ⟨S1x512, .i32⟩
  | .hbm, ⟨50, _⟩ => ⟨S512x512, .i32⟩
  | .hbm, ⟨51, _⟩ => ⟨S512x512, .i32⟩
  | .hbm, ⟨52, _⟩ => ⟨S512x512, .i1⟩
  | .hbm, ⟨53, _⟩ => ⟨S2x512x128x64, .f32⟩
  | .hbm, ⟨54, _⟩ => ⟨S2x512x128x64, .f32⟩
  | .hbm, ⟨55, _⟩ => ⟨S2x128x512x512, .f32⟩
  | .hbm, ⟨56, _⟩ => ⟨S2x128x512x512, .bf16⟩
  | .hbm, ⟨57, _⟩ => ⟨S2x128x512x512, .f32⟩
  | .hbm, ⟨58, _⟩ => ⟨S_, .f32⟩
  | .hbm, ⟨59, _⟩ => ⟨S2x128x512x512, .f32⟩
  | .hbm, ⟨60, _⟩ => ⟨S2x128x512x512, .f32⟩
  | .hbm, ⟨61, _⟩ => ⟨S1x1x512x512, .i1⟩
  | .hbm, ⟨62, _⟩ => ⟨S_, .f32⟩
  | .hbm, ⟨63, _⟩ => ⟨S_, .f32⟩
  | .hbm, ⟨64, _⟩ => ⟨S2x128x512x512, .i1⟩
  | .hbm, ⟨65, _⟩ => ⟨S2x128x512x512, .f32⟩
  | .hbm, ⟨66, _⟩ => ⟨S2x128x512x512, .f32⟩
  | .hbm, ⟨67, _⟩ => ⟨S_, .f32⟩
  | .hbm, ⟨68, _⟩ => ⟨S2x128x512, .f32⟩
  | .hbm, ⟨69, _⟩ => ⟨S2x128x512x1, .f32⟩
  | .hbm, ⟨70, _⟩ => ⟨S2x128x512x512, .f32⟩
  | .hbm, ⟨71, _⟩ => ⟨S2x128x512x512, .f32⟩
  | .hbm, ⟨72, _⟩ => ⟨S2x128x512x512, .f32⟩
  | .hbm, ⟨73, _⟩ => ⟨S_, .i1⟩
  | .hbm, ⟨74, _⟩ => ⟨S512, .i1⟩
  | .hbm, ⟨75, _⟩ => ⟨S1x1x512x1, .i1⟩
  | .hbm, ⟨76, _⟩ => ⟨S_, .f32⟩
  | .hbm, ⟨77, _⟩ => ⟨S2x128x512, .f32⟩
  | .hbm, ⟨78, _⟩ => ⟨S2x128x512x1, .f32⟩
  | .hbm, ⟨79, _⟩ => ⟨S_, .f32⟩
  | .hbm, ⟨80, _⟩ => ⟨S_, .f32⟩
  | .hbm, ⟨81, _⟩ => ⟨S2x128x512x1, .i1⟩
  | .hbm, ⟨82, _⟩ => ⟨S2x128x512x1, .f32⟩
  | .hbm, ⟨83, _⟩ => ⟨S2x128x512x1, .f32⟩
  | .hbm, ⟨84, _⟩ => ⟨S2x128x512x512, .f32⟩
  | .hbm, ⟨85, _⟩ => ⟨S2x128x512x512, .f32⟩
  | .hbm, ⟨86, _⟩ => ⟨S1x1x512x1, .i1⟩
  | .hbm, ⟨87, _⟩ => ⟨S_, .f32⟩
  | .hbm, ⟨88, _⟩ => ⟨S_, .f32⟩
  | .hbm, ⟨89, _⟩ => ⟨S2x128x512x512, .i1⟩
  | .hbm, ⟨90, _⟩ => ⟨S2x128x512x512, .f32⟩
  | .hbm, ⟨91, _⟩ => ⟨S2x128x512x512, .f32⟩
  | .hbm, ⟨92, _⟩ => ⟨S2x512x128x64, .f32⟩
  | .hbm, ⟨93, _⟩ => ⟨S2x128x64x512, .f32⟩
  | .hbm, ⟨94, _⟩ => ⟨S2x512x128x64, .f32⟩
  | .hbm, ⟨95, _⟩ => ⟨S2x512x8192, .f32⟩
  | .hbm, ⟨96, _⟩ => ⟨S8192x768, .f32⟩
  | .hbm, ⟨97, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_1 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v22 : Ref sig .tc := ⟨.hbm, 66, rfl⟩
abbrev main_cst_2 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_c_3 : Ref sig .tc := ⟨.hbm, 73, rfl⟩
abbrev main_v28 : Ref sig .tc := ⟨.hbm, 74, rfl⟩
abbrev main_v29 : Ref sig .tc := ⟨.hbm, 75, rfl⟩
abbrev main_cst_4 : Ref sig .tc := ⟨.hbm, 76, rfl⟩
abbrev main_v30 : Ref sig .tc := ⟨.hbm, 77, rfl⟩
abbrev main_v31 : Ref sig .tc := ⟨.hbm, 78, rfl⟩
abbrev main_cst_5 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_cst_6 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩

abbrev nD : Nat := 1
abbrev τ : Topo := Topo.v7x

variable {F : FTy → Type} [FloatOps F]
-- ==== Proof.Frag.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Pf

open Idealize.ShloMosaic Idealize.ShloMosaic.TcCoe
open Idealize.SL Idealize.SL.Sem
open Cert.KernelIdeal Cert.KernelIdeal.Gen

variable {F : FTy → Type} [FloatOps F]

/-- A program of a kernel body on a TensorCore. -/
abbrev Pg (F : FTy → Type) [FloatOps F] := Prog (TpuEff nD τ sig (Elt F) Λ₀ .tc) PUnit

/-- The zero offset of the exchange buffers. -/
abbrev z4 : Fin 4 → ℕ := ![0, 0, 0, 0]

/-- `h` rows of an exchange buffer. -/
abbrev T (h : ℕ) : Shape := ⟨4, ![h, 2, 32, 384]⟩

/-- The rectangle of `h` rows at offset `off` of a buffer of `n` rows. -/
abbrev R4 (n h : ℕ) (off : Fin 4 → ℕ) (hin : ∀ a, off a + (T h).size a ≤ (T n).size a) : Rect (T n) :=
  Rect.unit (s := T n) off (T h).size hin

/-- What one transfer of the reduce-scatter works on: its buffers, row offsets, semaphores and partner. -/
structure RS where
  h : ℕ
  acc : Memref sig .tc .vmem (T 16) .f32
  sb : Memref sig .tc .vmem (T 8) .bf16
  st : Memref sig .tc .vmem (T 15) .bf16
  offS : Fin 4 → ℕ
  offK : Fin 4 → ℕ
  o : Fin 4 → ℕ
  s : DmaSem sig
  r : DmaSem sig
  p : Dev nD
  hS : ∀ a, offS a + (T h).size a ≤ (T 16).size a
  hK : ∀ a, offK a + (T h).size a ≤ (T 16).size a
  hb : ∀ a, z4 a + (T h).size a ≤ (T 8).size a
  ho : ∀ a, o a + (T h).size a ≤ (T 15).size a
  lS : acc.view.LoadsAt (R4 16 h offS hS).toLoadRect
  lK : acc.view.LoadsAt (R4 16 h offK hK).toLoadRect
  lb : sb.view.LoadsAt (R4 8 h z4 hb).toLoadRect
  lo : st.view.LoadsAt (R4 15 h o ho).toLoadRect
  sS : (sb.access (R4 8 h z4 hb)).Stores Finset.univ
  sK : (acc.access (R4 16 h offK hK)).Stores Finset.univ
  wb : (sb.slice (R4 8 h z4 hb) (fun _ => rfl)).view.WordExact
  wo : (st.slice (R4 15 h o ho) (fun _ => rfl)).view.WordExact
  sc : (T h).ShapeCasts (T h)

/-- What one transfer of the all-gather works on. -/
structure AG where
  h : ℕ
  g : Memref sig .tc .vmem (T 16) .bf16
  off : Fin 4 → ℕ
  s : DmaSem sig
  r : DmaSem sig
  p : Dev nD
  hin : ∀ a, off a + (T h).size a ≤ (T 16).size a
  w : (g.slice (R4 16 h off hin) (fun _ => rfl)).view.WordExact

/-- The value sent in a reduce-scatter transfer. -/
def trv {t : Shape} (sc : t.ShapeCasts t) (v : FVec F t .f32) : FVec F t .bf16 :=
  shapeCast t (truncf .bf16 v bitsLt_bf16_f32) sc

/-- The sum stored after a reduce-scatter transfer. -/
def addv {t : Shape} (sc : t.ShapeCasts t) (v : FVec F t .f32) (w : FVec F t .bf16) : FVec F t .f32 :=
  shapeCast t (addf v (extf .f32 w bitsLt_bf16_f32)) sc

/-- Round the half to be given away, put it in the send buffer and start its transfer. -/
def rsStart (P : RS) (k : Pg F) : Pg F :=
  .op (.load P.acc (R4 16 P.h P.offS P.hS).toLoadRect P.lS) fun (v : Vec F (T P.h) .f32) =>
  .op (.load P.sb (R4 8 P.h z4 P.hb).toLoadRect P.lb) fun _ =>
  .op (.store P.sb (R4 8 P.h z4 P.hb) (trv (t := T P.h) P.sc v) Finset.univ P.sS (.inl rfl)) fun _ =>
  .op (.enqueueDma (P.sb.slice (R4 8 P.h z4 P.hb) (fun _ => rfl))
    (.remote (Dev.tc P.p) (P.st.slice (R4 15 P.h P.o P.ho) (fun _ => rfl)) (.dma P.s)) (.dma P.r) P.wb P.wo
    ⟨⟨rfl, Or.inl rfl⟩, trivial⟩) fun _ => k

/-- Wait for both ends of a reduce-scatter transfer and add what came in to the half kept. -/
def rsFin (P : RS) (k : Pg F) : Pg F :=
  .op (.waitDma2 P.s (P.st.slice (R4 15 P.h P.o P.ho) (fun _ => rfl)) (P.sb.slice (R4 8 P.h z4 P.hb) (fun _ => rfl)) P.wo P.wb) fun _ =>
  .op (.waitDma2 P.r (P.sb.slice (R4 8 P.h z4 P.hb) (fun _ => rfl)) (P.st.slice (R4 15 P.h P.o P.ho) (fun _ => rfl)) P.wb P.wo) fun _ =>
  .op (.load P.acc (R4 16 P.h P.offK P.hK).toLoadRect P.lK) fun (v : Vec F (T P.h) .f32) =>
  .op (.load P.st (R4 15 P.h P.o P.ho).toLoadRect P.lo) fun (w : Vec F (T P.h) .bf16) =>
  .op (.load P.acc (R4 16 P.h P.offK P.hK).toLoadRect P.lK) fun _ =>
  .op (.store P.acc (R4 16 P.h P.offK P.hK) (addv (t := T P.h) P.sc v w) Finset.univ P.sK (.inl rfl)) fun _ => k

/-- Start an all-gather transfer. -/
def agStart (P : AG) (k : Pg F) : Pg F :=
  .op (.enqueueDma (P.g.slice (R4 16 P.h P.off P.hin) (fun _ => rfl))
    (.remote (Dev.tc P.p) (P.g.slice (R4 16 P.h P.off P.hin) (fun _ => rfl)) (.dma P.s)) (.dma P.r) P.w P.w
    ⟨⟨rfl, Or.inl rfl⟩, trivial⟩) fun _ => k

/-- Wait for both ends of an all-gather transfer. -/
def agFin (P : AG) (k : Pg F) : Pg F :=
  .op (.waitDma2 P.s (P.g.slice (R4 16 P.h P.off P.hin) (fun _ => rfl)) (P.g.slice (R4 16 P.h P.off P.hin) (fun _ => rfl)) P.w P.w) fun _ =>
  .op (.waitDma2 P.r (P.g.slice (R4 16 P.h P.off P.hin) (fun _ => rfl)) (P.g.slice (R4 16 P.h P.off P.hin) (fun _ => rfl)) P.w P.w) fun _ => k

/-- Round the reduced row a device owns into the gather buffer. -/
def gStore (acc : Memref sig .tc .vmem (T 16) .f32) (g : Memref sig .tc .vmem (T 16) .bf16) (off : Fin 4 → ℕ)
    (hin : ∀ a, off a + (T 1).size a ≤ (T 16).size a)
    (la : acc.view.LoadsAt (R4 16 1 off hin).toLoadRect) (lg : g.view.LoadsAt (R4 16 1 off hin).toLoadRect)
    (sg : (g.access (R4 16 1 off hin)).Stores Finset.univ) (sc : (T 1).ShapeCasts (T 1)) (k : Pg F) : Pg F :=
  .op (.load acc (R4 16 1 off hin).toLoadRect la) fun (v : Vec F (T 1) .f32) =>
  .op (.load g (R4 16 1 off hin).toLoadRect lg) fun _ =>
  .op (.store g (R4 16 1 off hin) (trv (t := T 1) sc v) Finset.univ sg (.inl rfl)) fun _ => k

/-- A row of the accumulator to be filled: which half of the columns, the row and batch, and the value. -/
structure ASt (F : FTy → Type) [FloatOps F] where
  acc : Memref sig .tc .vmem (T 16) .f32
  off : Fin 4 → ℕ
  hin : ∀ a, off a + (S1x1x32x384).size a ≤ (T 16).size a
  w : FVec F S1x1x32x384 .f32

/-- The stores that fill the accumulators. -/
def aStores : List (ASt F) → Pg F → Pg F
  | [], k => k
  | x :: xs, k =>
    .op (.load x.acc (Rect.unit (s := T 16) x.off S1x1x32x384.size x.hin).toLoadRect (View.loadsAt_vmem h_S1x1x32x384)) fun _ =>
    .op (.store x.acc (Rect.unit (s := T 16) x.off S1x1x32x384.size x.hin) x.w Finset.univ
      (View.stores_vmem_bits_univ h_S1x1x32x384 rfl) (.inl rfl)) fun _ => aStores xs k

/-- A block of the output: the gather buffer and row it is read from and the place it is stored. -/
structure OSt where
  g : Memref sig .tc .vmem (T 16) .bf16
  off : Fin 4 → ℕ
  hin : ∀ a, off a + (T 1).size a ≤ (T 16).size a
  oo : Fin 3 → ℕ
  ho : ∀ a, oo a + S2x32x384.size a ≤ S2x512x768.size a

/-- The output's memory. -/
abbrev oM : Memref sig .tc .vmem S2x512x768 .f32 := Memref.whole cc0_stg5_0

/-- The value stored in a block of the output. -/
def outv (v : FVec F (T 1) .bf16) : FVec F S2x32x384 .f32 :=
  extf .f32 (shapeCast S2x32x384 v shapeCasts_S1x2x32x384_S2x32x384) bitsLt_bf16_f32

/-- The copies of the gathered rows into the output. -/
def oStores : List OSt → Pg F → Pg F
  | [], k => k
  | x :: xs, k =>
    .op (.load x.g (R4 16 1 x.off x.hin).toLoadRect (View.loadsAt_vmem h_S1x2x32x384)) fun (v : Vec F (T 1) .bf16) =>
    .op (.load oM (Rect.unit (s := S2x512x768) x.oo S2x32x384.size x.ho).toLoadRect (View.loadsAt_vmem h_S2x32x384)) fun _ =>
    .op (.store oM (Rect.unit (s := S2x512x768) x.oo S2x32x384.size x.ho) (outv v) Finset.univ
      (View.stores_vmem_bits_univ h_S2x32x384 rfl) (.inl rfl)) fun _ => oStores xs k

end Cert.KernelIdeal.Pf

end
-- ==== Proof.Body.lean ====
module

public import proofs.«01_k».proof.Proof.Frag

@[expose] public section

noncomputable section

namespace Cert.KernelIdeal.Pf

open Idealize.ShloMosaic Idealize.ShloMosaic.TcCoe
open Idealize.SL Idealize.SL.Sem
open Cert.KernelIdeal Cert.KernelIdeal.Gen

variable {F : FTy → Type} [FloatOps F]

/-- The accumulator of each half of the columns. -/
abbrev accM : Fin 2 → Memref sig .tc .vmem (T 16) .f32 := ![Memref.whole cc0_scratch0, Memref.whole cc0_scratch1]
/-- The send buffer of each half. -/
abbrev sbM : Fin 2 → Memref sig .tc .vmem (T 8) .bf16 := ![Memref.whole cc0_scratch2, Memref.whole cc0_scratch3]
/-- The buffer each half's partial sums arrive in. -/
abbrev stM : Fin 2 → Memref sig .tc .vmem (T 15) .bf16 := ![Memref.whole cc0_scratch4, Memref.whole cc0_scratch5]
/-- The gather buffer of each half. -/
abbrev gM : Fin 2 → Memref sig .tc .vmem (T 16) .bf16 := ![Memref.whole cc0_scratch6, Memref.whole cc0_scratch7]
/-- The arguments' memory. -/
abbrev xM : Memref sig .tc .vmem S2x512x768 .bf16 := Memref.whole cc0_stg0_0
abbrev wqM : Memref sig .tc .vmem S768x512 .bf16 := Memref.whole cc0_stg1_0
abbrev kM : Memref sig .tc .vmem S2x512x8x64 .bf16 := Memref.whole cc0_stg2_0
abbrev vM : Memref sig .tc .vmem S2x512x8x64 .bf16 := Memref.whole cc0_stg3_0
abbrev woM : Memref sig .tc .vmem S512x768 .bf16 := Memref.whole cc0_stg4_0

theorem accM_whole : ∀ sd, (accM sd).IsWhole | 0 => Memref.isWhole_whole _ | 1 => Memref.isWhole_whole _
theorem sbM_whole : ∀ sd, (sbM sd).IsWhole | 0 => Memref.isWhole_whole _ | 1 => Memref.isWhole_whole _
theorem stM_whole : ∀ sd, (stM sd).IsWhole | 0 => Memref.isWhole_whole _ | 1 => Memref.isWhole_whole _
theorem gM_whole : ∀ sd, (gM sd).IsWhole | 0 => Memref.isWhole_whole _ | 1 => Memref.isWhole_whole _

/-- The semaphore the sender of a transfer waits on: phases 0 to 3 reduce, 4 to 7 gather. -/
def semS (ph : Fin 8) (sd : Fin 2) : DmaSem sig := ⟨6 + 16 * (ph.val / 4) + 8 * sd.val + ph.val % 4, by change _ < 38; omega⟩
/-- The semaphore its receiver waits on. -/
def semR (ph : Fin 8) (sd : Fin 2) : DmaSem sig := ⟨10 + 16 * (ph.val / 4) + 8 * sd.val + ph.val % 4, by change _ < 38; omega⟩

/-- The reduce-scatter transfer of round 0. -/
def rs0 (c : Dev nD) (sd : Fin 2) : RS where
  h := 8
  acc := accM sd
  sb := sbM sd
  st := stM sd
  offS := k0_off1 c (BitVec.ofNat 32 (2 * sd.val))
  offK := k0_off2 c (BitVec.ofNat 32 (2 * sd.val))
  o := ![0, 0, 0, 0]
  s := semS 0 sd
  r := semR 0 sd
  p := ![(⟨k0_dev5 c, k0_dev5_lt c⟩ : Dev nD), ⟨k0_dev6 c, k0_dev6_lt c⟩] sd
  hS := k0_off1_inb c sd
  hK := k0_off2_inb c sd
  hb := inb_S8x2x32x384_S8x2x32x384_0_0_0_0
  ho := inb_S15x2x32x384_S8x2x32x384_0_0_0_0
  lS := View.loadsAt_vmem h_S8x2x32x384
  lK := View.loadsAt_vmem h_S8x2x32x384
  lb := View.loadsAt_vmem h_S8x2x32x384
  lo := View.loadsAt_vmem h_S8x2x32x384
  sS := View.stores_vmem h_S8x2x32x384 ((sbM_whole sd).storeExact_slice rfl _ packedbf16_S8x2x32x384_S8x2x32x384_0_0_0_0) (fun _ => rfl)
  sK := View.stores_vmem_bits_univ h_S8x2x32x384 rfl
  wb := (sbM_whole sd).wordExact_slice rfl _ wordsbf16_S8x2x32x384_S8x2x32x384_0_0_0_0
  wo := (stM_whole sd).wordExact_slice rfl _ wordsbf16_S15x2x32x384_S8x2x32x384_0_0_0_0
  sc := shapeCasts_S8x2x32x384_S8x2x32x384

/-- The reduce-scatter transfer of round 1. -/
def rs1 (c : Dev nD) (sd : Fin 2) : RS where
  h := 4
  acc := accM sd
  sb := sbM sd
  st := stM sd
  offS := k0_off3 c (k0_off3_at sd).1 (k0_off3_at sd).2
  offK := k0_off4 c (k0_off4_at sd).1 (k0_off4_at sd).2
  o := ![8, 0, 0, 0]
  s := semS 1 sd
  r := semR 1 sd
  p := ![(⟨k0_dev7 c, k0_dev7_lt c⟩ : Dev nD), ⟨k0_dev8 c, k0_dev8_lt c⟩] sd
  hS := k0_off3_inb c sd
  hK := k0_off4_inb c sd
  hb := inb_S8x2x32x384_S4x2x32x384_0_0_0_0
  ho := inb_S15x2x32x384_S4x2x32x384_8_0_0_0
  lS := View.loadsAt_vmem h_S4x2x32x384
  lK := View.loadsAt_vmem h_S4x2x32x384
  lb := View.loadsAt_vmem h_S4x2x32x384
  lo := View.loadsAt_vmem h_S4x2x32x384
  sS := View.stores_vmem h_S4x2x32x384 ((sbM_whole sd).storeExact_slice rfl _ packedbf16_S8x2x32x384_S4x2x32x384_0_0_0_0) (fun _ => rfl)
  sK := View.stores_vmem_bits_univ h_S4x2x32x384 rfl
  wb := (sbM_whole sd).wordExact_slice rfl _ wordsbf16_S8x2x32x384_S4x2x32x384_0_0_0_0
  wo := (stM_whole sd).wordExact_slice rfl _ wordsbf16_S15x2x32x384_S4x2x32x384_8_0_0_0
  sc := shapeCasts_S4x2x32x384_S4x2x32x384

/-- The reduce-scatter transfer of round 2. -/
def rs2 (c : Dev nD) (sd : Fin 2) : RS where
  h := 2
  acc := accM sd
  sb := sbM sd
  st := stM sd
  offS := k0_off5 c (k0_off5_at sd).1 (k0_off5_at sd).2.1 (k0_off5_at sd).2.2
  offK := k0_off6 c (k0_off6_at sd).1 (k0_off6_at sd).2.1 (k0_off6_at sd).2.2
  o := ![12, 0, 0, 0]
  s := semS 2 sd
  r := semR 2 sd
  p := ![(⟨k0_dev9 c, k0_dev9_lt c⟩ : Dev nD), ⟨k0_dev10 c, k0_dev10_lt c⟩] sd
  hS := k0_off5_inb c sd
  hK := k0_off6_inb c sd
  hb := inb_S8x2x32x384_S2x2x32x384_0_0_0_0
  ho := inb_S15x2x32x384_S2x2x32x384_12_0_0_0
  lS := View.loadsAt_vmem h_S2x2x32x384
  lK := View.loadsAt_vmem h_S2x2x32x384
  lb := View.loadsAt_vmem h_S2x2x32x384
  lo := View.loadsAt_vmem h_S2x2x32x384
  sS := View.stores_vmem h_S2x2x32x384 ((sbM_whole sd).storeExact_slice rfl _ packedbf16_S8x2x32x384_S2x2x32x384_0_0_0_0) (fun _ => rfl)
  sK := View.stores_vmem_bits_univ h_S2x2x32x384 rfl
  wb := (sbM_whole sd).wordExact_slice rfl _ wordsbf16_S8x2x32x384_S2x2x32x384_0_0_0_0
  wo := (stM_whole sd).wordExact_slice rfl _ wordsbf16_S15x2x32x384_S2x2x32x384_12_0_0_0
  sc := shapeCasts_S2x2x32x384_S2x2x32x384

/-- The reduce-scatter transfer of round 3. -/
def rs3 (c : Dev nD) (sd : Fin 2) : RS where
  h := 1
  acc := accM sd
  sb := sbM sd
  st := stM sd
  offS := k0_off7 c (k0_off7_at sd).1 (k0_off7_at sd).2.1 (k0_off7_at sd).2.2.1 (k0_off7_at sd).2.2.2
  offK := k0_off8 c (k0_off8_at sd).1 (k0_off8_at sd).2.1 (k0_off8_at sd).2.2.1 (k0_off8_at sd).2.2.2
  o := ![14, 0, 0, 0]
  s := semS 3 sd
  r := semR 3 sd
  p := ![(⟨k0_dev11 c, k0_dev11_lt c⟩ : Dev nD), ⟨k0_dev12 c, k0_dev12_lt c⟩] sd
  hS := k0_off7_inb c sd
  hK := k0_off8_inb c sd
  hb := inb_S8x2x32x384_S1x2x32x384_0_0_0_0
  ho := inb_S15x2x32x384_S1x2x32x384_14_0_0_0
  lS := View.loadsAt_vmem h_S1x2x32x384
  lK := View.loadsAt_vmem h_S1x2x32x384
  lb := View.loadsAt_vmem h_S1x2x32x384
  lo := View.loadsAt_vmem h_S1x2x32x384
  sS := View.stores_vmem h_S1x2x32x384 ((sbM_whole sd).storeExact_slice rfl _ packedbf16_S8x2x32x384_S1x2x32x384_0_0_0_0) (fun _ => rfl)
  sK := View.stores_vmem_bits_univ h_S1x2x32x384 rfl
  wb := (sbM_whole sd).wordExact_slice rfl _ wordsbf16_S8x2x32x384_S1x2x32x384_0_0_0_0
  wo := (stM_whole sd).wordExact_slice rfl _ wordsbf16_S15x2x32x384_S1x2x32x384_14_0_0_0
  sc := shapeCasts_S1x2x32x384_S1x2x32x384

/-- The all-gather transfer of round 0. -/
def ag0 (c : Dev nD) (sd : Fin 2) : AG where
  h := 1
  g := gM sd
  off := k0_off9 c (k0_off9_at sd).1 (k0_off9_at sd).2.1 (k0_off9_at sd).2.2.1 (k0_off9_at sd).2.2.2
  s := semS 4 sd
  r := semR 4 sd
  p := ![(⟨k0_dev13 c, k0_dev13_lt c⟩ : Dev nD), ⟨k0_dev14 c, k0_dev14_lt c⟩] sd
  hin := k0_off9_inb c sd
  w := (gM_whole sd).wordExact_slice rfl _ (k0_off9_wordsbf16 c sd)

/-- The all-gather transfer of round 1. -/
def ag1 (c : Dev nD) (sd : Fin 2) : AG where
  h := 2
  g := gM sd
  off := k0_off10 c (k0_off10_at sd).1 (k0_off10_at sd).2.1 (k0_off10_at sd).2.2.1 (k0_off10_at sd).2.2.2
  s := semS 5 sd
  r := semR 5 sd
  p := ![(⟨k0_dev15 c, k0_dev15_lt c⟩ : Dev nD), ⟨k0_dev16 c, k0_dev16_lt c⟩] sd
  hin := k0_off10_inb c sd
  w := (gM_whole sd).wordExact_slice rfl _ (k0_off10_wordsbf16 c sd)

/-- The all-gather transfer of round 2. -/
def ag2 (c : Dev nD) (sd : Fin 2) : AG where
  h := 4
  g := gM sd
  off := k0_off11 c (k0_off11_at sd).1 (k0_off11_at sd).2.1 (k0_off11_at sd).2.2.1 (k0_off11_at sd).2.2.2
  s := semS 6 sd
  r := semR 6 sd
  p := ![(⟨k0_dev17 c, k0_dev17_lt c⟩ : Dev nD), ⟨k0_dev18 c, k0_dev18_lt c⟩] sd
  hin := k0_off11_inb c sd
  w := (gM_whole sd).wordExact_slice rfl _ (k0_off11_wordsbf16 c sd)

/-- The all-gather transfer of round 3. -/
def ag3 (c : Dev nD) (sd : Fin 2) : AG where
  h := 8
  g := gM sd
  off := k0_off12 c (k0_off12_at sd).1 (k0_off12_at sd).2.1 (k0_off12_at sd).2.2.1 (k0_off12_at sd).2.2.2
  s := semS 7 sd
  r := semR 7 sd
  p := ![(⟨k0_dev19 c, k0_dev19_lt c⟩ : Dev nD), ⟨k0_dev20 c, k0_dev20_lt c⟩] sd
  hin := k0_off12_inb c sd
  w := (gM_whole sd).wordExact_slice rfl _ (k0_off12_wordsbf16 c sd)

/-- Which row of the accumulators a block of 32 sequence positions goes to, for each half. -/
def perm : Fin 2 → Fin 16 → ℕ :=
  ![![0, 8, 2, 10, 4, 12, 6, 14, 1, 9, 3, 11, 5, 13, 7, 15], ![0, 4, 1, 5, 8, 12, 9, 13, 2, 6, 3, 7, 10, 14, 11, 15]]

theorem perm_inb : ∀ (sd : Fin 2) (q : Fin 16) (b : Fin 2) (a : Fin 4),
    (![perm sd q, b.val, 0, 0] : Fin 4 → ℕ) a + S1x1x32x384.size a ≤ (T 16).size a := by decide +kernel
theorem perm_inb' : ∀ (sd : Fin 2) (q : Fin 16) (a : Fin 4),
    (![perm sd q, 0, 0, 0] : Fin 4 → ℕ) a + (T 1).size a ≤ (T 16).size a := by decide +kernel
theorem out_inb : ∀ (sd : Fin 2) (q : Fin 16) (a : Fin 3),
    (![0, 32 * q.val, 384 * sd.val] : Fin 3 → ℕ) a + S2x32x384.size a ≤ S2x512x768.size a := by decide +kernel
theorem part_slices : ∀ (sd : Fin 2) (q : Fin 16), S512x768.Slices ![32 * q.val, 384 * sd.val] S32x384 := by decide +kernel
theorem head_slices : ∀ h : Fin 8, S512x512.Slices ![0, 64 * h.val] S512x64 := by decide +kernel
theorem kv_inb : ∀ (b : Fin 2) (h : Fin 8) (a : Fin 4),
    (![b.val, 0, h.val, 0] : Fin 4 → ℕ) a + S1x512x1x64.size a ≤ S2x512x8x64.size a := by decide +kernel
theorem x_inb : ∀ (b : Fin 2) (a : Fin 3),
    (![b.val, 0, 0] : Fin 3 → ℕ) a + S1x512x768.size a ≤ S2x512x768.size a := by decide +kernel

/-- The mask: which pairs of positions attend. -/
def maskV : IVec S512x512 1 :=
  k0_pay4 (iota .tc S512x512 32 [0] iota_S512x512_d0_w32) 64#32 k0_pay2 k0_pay3
    (Scalar.extui (Scalar.cmpi .sgt 64#32 0#32)) (Scalar.cmpi .slt 64#32 0#32)

/-- The unnormalised weights of one head. -/
def expV (q16 : FVec F S512x512 .bf16) (h : Fin 8) (k : Vec F S1x512x1x64 .bf16) : FVec F S512x512 .f32 :=
  exp (select maskV (mulf (matmul dot_S512x64_S512x64_S512x512_1_1_0_0_n_n none
      (extractStridedSlice S512x64 ![0, 64 * h.val] q16 (head_slices h))
      (shapeCast S512x64 k shapeCasts_S1x512x1x64_S512x64 : FVec F S512x64 .bf16) (constant S512x512 .f32 0x00000000#32))
    (broadcast S512x512 (Scalar.ofBits .f32 0x3E000000#32)))
    (broadcast S512x512 (Scalar.ofBits .f32 0xCE6E6B28#32)))

/-- The context of one head: its weighted values over the sum of its weights. -/
def headV (q16 : FVec F S512x512 .bf16) (h : Fin 8) (k v : Vec F S1x512x1x64 .bf16) : FVec F S512x64 .f32 :=
  divf (matmul dot_S512x512_S512x64_S512x64_1_0_0_1_n_n none (truncf .bf16 (expV q16 h k) bitsLt_bf16_f32)
      (shapeCast S512x64 v shapeCasts_S1x512x1x64_S512x64 : FVec F S512x64 .bf16) (constant S512x64 .f32 0x00000000#32))
    (broadcastTo S512x64 (shapeCast S512x1 (multiReduction .add [1] S512 (expV q16 h k) 0x00000000#32 reduces_S512x512_S512 (.inl rfl) rfl)
      shapeCasts_S512_S512x1) broadcasts_S512x1_S512x64)

/-- The queries of one batch. -/
def qV (wq : Vec F S768x512 .bf16) (x : Vec F S1x512x768 .bf16) : FVec F S512x512 .bf16 :=
  truncf .bf16 (matmul dot_S512x768_S768x512_S512x512_1_0_0_1_n_n none
    (shapeCast S512x768 x shapeCasts_S1x512x768_S512x768 : FVec F S512x768 .bf16)
    (shapeCast S768x512 wq shapeCasts_S768x512_S768x512 : FVec F S768x512 .bf16)
    (constant S512x512 .f32 0x00000000#32)) bitsLt_bf16_f32

/-- A device's part of the output for one batch: its heads' contexts times its rows of the output weights. -/
def partV (wo : Vec F S512x768 .bf16) (q16 : FVec F S512x512 .bf16)
    (k0 v0 k1 v1 k2 v2 k3 v3 k4 v4 k5 v5 k6 v6 k7 v7 : Vec F S1x512x1x64 .bf16) : FVec F S512x768 .f32 :=
  matmul dot_S512x512_S512x768_S512x768_1_0_0_1_n_n none
    (truncf .bf16 (concatenate S512x512 1 [⟨S512x64, headV q16 0 k0 v0⟩, ⟨S512x64, headV q16 1 k1 v1⟩, ⟨S512x64, headV q16 2 k2 v2⟩,
        ⟨S512x64, headV q16 3 k3 v3⟩, ⟨S512x64, headV q16 4 k4 v4⟩, ⟨S512x64, headV q16 5 k5 v5⟩, ⟨S512x64, headV q16 6 k6 v6⟩,
        ⟨S512x64, headV q16 7 k7 v7⟩]
      concatenates_S512x64_S512x64_S512x64_S512x64_S512x64_S512x64_S512x64_S512x64_S512x512_d1) bitsLt_bf16_f32)
    (shapeCast S512x768 wo shapeCasts_S512x768_S512x768 : FVec F S512x768 .bf16) (constant S512x768 .f32 0x00000000#32)

/-- The piece of the partial output stored in one row of an accumulator. -/
def pieceV (v : FVec F S512x768 .f32) (sd : Fin 2) (q : Fin 16) : FVec F S1x1x32x384 .f32 :=
  shapeCast S1x1x32x384 (extractStridedSlice S32x384 ![32 * q.val, 384 * sd.val] v (part_slices sd q)) shapeCasts_S32x384_S1x1x32x384

/-- Read one head's keys and values. -/
def kvLoad (b : Fin 2) (h : Fin 8) (k : Vec F S1x512x1x64 .bf16 → Vec F S1x512x1x64 .bf16 → Pg F) : Pg F :=
  .op (.load kM (Rect.unit (s := S2x512x8x64) ![b.val, 0, h.val, 0] S1x512x1x64.size (kv_inb b h)).toLoadRect (View.loadsAt_vmem h_S1x512x1x64)) fun kk =>
  .op (.load vM (Rect.unit (s := S2x512x8x64) ![b.val, 0, h.val, 0] S1x512x1x64.size (kv_inb b h)).toLoadRect (View.loadsAt_vmem h_S1x512x1x64)) fun vv =>
  k kk vv

/-- The pieces stored in the accumulators for one batch, in order. -/
def pieces (b : Fin 2) (v : FVec F S512x768 .f32) : List (ASt F) :=
  [0, 1, 2, 3, 4, 5, 6, 7, 8, 9, 10, 11, 12, 13, 14, 15].flatMap fun q : Fin 16 =>
    [(⟨accM 0, ![perm 0 q, b.val, 0, 0], perm_inb 0 q b, pieceV v 0 q⟩ : ASt F), ⟨accM 1, ![perm 1 q, b.val, 0, 0], perm_inb 1 q b, pieceV v 1 q⟩]

/-- Read one batch's queries. -/
def xLoad (b : Fin 2) (k : Vec F S1x512x768 .bf16 → Pg F) : Pg F :=
  .op (.load xM (Rect.unit (s := S2x512x768) ![b.val, 0, 0] S1x512x768.size (x_inb b)).toLoadRect (View.loadsAt_vmem h_S1x512x768)) k

/-- One batch: from its queries, read the heads and fill the accumulators with the partial output. -/
def batch (b : Fin 2) (wo : Vec F S512x768 .bf16) (q16 : FVec F S512x512 .bf16) (k : Pg F) : Pg F :=
  kvLoad b 0 fun k0 v0 => kvLoad b 1 fun k1 v1 => kvLoad b 2 fun k2 v2 => kvLoad b 3 fun k3 v3 =>
  kvLoad b 4 fun k4 v4 => kvLoad b 5 fun k5 v5 => kvLoad b 6 fun k6 v6 => kvLoad b 7 fun k7 v7 =>
  aStores (pieces b (partV wo q16 k0 v0 k1 v1 k2 v2 k3 v3 k4 v4 k5 v5 k6 v6 k7 v7)) k

/-- The blocks of the output, in order. -/
def blocks : List OSt :=
  [0, 1, 2, 3, 4, 5, 6, 7, 8, 9, 10, 11, 12, 13, 14, 15].flatMap fun q : Fin 16 =>
    [(⟨gM 0, ![perm 0 q, 0, 0, 0], perm_inb' 0 q, ![0, 32 * q.val, 384 * (0 : Fin 2).val], out_inb 0 q⟩ : OSt), ⟨gM 1, ![perm 1 q, 0, 0, 0], perm_inb' 1 q, ![0, 32 * q.val, 384 * (1 : Fin 2).val], out_inb 1 q⟩]

/-- One round of the reduce-scatter, both halves. -/
def rsRound (P : Fin 2 → RS) (k : Pg F) : Pg F := rsStart (P 0) <| rsStart (P 1) <| rsFin (P 0) <| rsFin (P 1) k
/-- One round of the all-gather, both halves. -/
def agRound (P : Fin 2 → AG) (k : Pg F) : Pg F := agStart (P 0) <| agStart (P 1) <| agFin (P 0) <| agFin (P 1) k

/-- The reduced row a device owns is rounded into the gather buffer, for one half. -/
def gSt (c : Dev nD) (sd : Fin 2) (k : Pg F) : Pg F :=
  gStore (accM sd) (gM sd) (k0_off8 c (k0_off8_at sd).1 (k0_off8_at sd).2.1 (k0_off8_at sd).2.2.1 (k0_off8_at sd).2.2.2) (k0_off8_inb c sd)
    (View.loadsAt_vmem h_S1x2x32x384) (View.loadsAt_vmem h_S1x2x32x384)
    (View.stores_vmem h_S1x2x32x384 ((gM_whole sd).storeExact_slice rfl _ (k0_off8_packedbf16 c sd)) (fun _ => rfl))
    shapeCasts_S1x2x32x384_S1x2x32x384 k

/-- The barrier's semaphore. -/
abbrev barS : Sem sig := (SemArray.scalar (sig.barrier 0 rfl) : Sems sig S_).sem

/-- The entry barrier with the four neighbours. -/
def barrier (c : Dev nD) (k : Pg F) : Pg F :=
  .op (.semSignal (((⟨k0_dev1 c, k0_dev1_lt c⟩ : Dev nD), .tc) : Thread nD τ) barS (1#32 : BitVec 32).toInt) fun _ =>
  .op (.semSignal (((⟨k0_dev2 c, k0_dev2_lt c⟩ : Dev nD), .tc) : Thread nD τ) barS (1#32 : BitVec 32).toInt) fun _ =>
  .op (.semSignal (((⟨k0_dev3 c, k0_dev3_lt c⟩ : Dev nD), .tc) : Thread nD τ) barS (1#32 : BitVec 32).toInt) fun _ =>
  .op (.semSignal (((⟨k0_dev4 c, k0_dev4_lt c⟩ : Dev nD), .tc) : Thread nD τ) barS (1#32 : BitVec 32).toInt) fun _ =>
  .op (.semWait barS (4#32 : BitVec 32).toInt) fun _ => k

/-- The communication: four rounds of the reduce-scatter, the rounding of the reduced row, four rounds of the all-gather. -/
def comm (c : Dev nD) (k : Pg F) : Pg F :=
  rsRound (rs0 c) <| rsRound (rs1 c) <| rsRound (rs2 c) <| rsRound (rs3 c) <| gSt c 0 <| gSt c 1 <|
  agRound (ag0 c) <| agRound (ag1 c) <| agRound (ag2 c) <| agRound (ag3 c) k

/-- The kernel's body, in the pieces the proof goes by. -/
def body : Pg F :=
  .op .deviceId fun c => barrier c <|
  .op (.load wqM (Rect.unit (s := S768x512) ![0, 0] S768x512.size inb_S768x512_S768x512_0_0).toLoadRect (View.loadsAt_vmem h_S768x512)) fun wq =>
  .op (.load woM (Rect.unit (s := S512x768) ![0, 0] S512x768.size inb_S512x768_S512x768_0_0).toLoadRect (View.loadsAt_vmem h_S512x768)) fun wo =>
  xLoad 0 fun x0 => batch 0 wo (qV wq x0) <| xLoad 1 fun x1 => batch 1 wo (qV wq x1) <|
  comm c <| oStores blocks (.ret ⟨⟩)

set_option maxRecDepth 65536 in
/-- The printed body is `body`. -/
theorem body_eq (t : Fin cfg0.N) : bodyAt0 (F := F) t = body := by
  have h : (bodyAt0 t : Pg F) = body := by chain_rfl
  exact h

end Cert.KernelIdeal.Pf

end
-- ==== Proof.Own.lean ====
module

public import proofs.«01_k».proof.Proof.Body
public import Idealize.ShloMosaic.Lib.Pipeline.Launch
public import Idealize.ShloMosaic.Lib.Pipeline.Kit
public import Idealize.ShloMosaic.Lib.Tactic

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's ghost state: a barrier cell's duties are named by its four signals. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A program of the body on device `c` ends with `Q`. -/
abbrev WP {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

/-- Device `c` holds the elements of `m` at the indices `I`, and they are `X` there. -/
def ownsOn (c : Dev nD) {s : Shape} {e : EltTy} (m : Memref sig .tc .vmem s e) (I : Finset s.Idx) (X : s.Idx → Elt F e) : sProp 𝕄 :=
  iprop(∃ f : Buf (Elt F) (m.view.loc (c : Thread nD τ)), ⌜∀ x ∈ I, m.view.read (Elt F) f x = X x⌝
    ∗ (m.view.loc (c : Thread nD τ) ↦[m.view.setOn I]{fullShare} f))

/-- Device `c` holds the elements of `m` at the indices `I`, whatever they are. -/
def anyOn (c : Dev nD) {s : Shape} {e : EltTy} (m : Memref sig .tc .vmem s e) (I : Finset s.Idx) : sProp 𝕄 :=
  iprop(∃ f : Buf (Elt F) (m.view.loc (c : Thread nD τ)), (m.view.loc (c : Thread nD τ) ↦[m.view.setOn I]{fullShare} f))

section Own

variable (c : Dev nD) {s : Shape} {e : EltTy} (m : Memref sig .tc .vmem s e)

instance ownsOn_storable (I : Finset s.Idx) (X : s.Idx → Elt F e) : BI.Storable (upEmb : UEmb _ 𝕄) (ownsOn c m I X) := by
  unfold ownsOn; infer_instance
instance anyOn_storable (I : Finset s.Idx) : BI.Storable (upEmb : UEmb _ 𝕄) (anyOn (F := F) c m I) := by
  unfold anyOn; infer_instance

variable {c m}

theorem ownsOn_any {I : Finset s.Idx} {X : s.Idx → Elt F e} : (ownsOn c m I X : sProp 𝕄) ⊢ anyOn c m I := by
  unfold ownsOn anyOn
  iintro ⟨%f, -, H⟩
  iexists f; iexact H

theorem anyOn_owns {I : Finset s.Idx} : (anyOn c m I : sProp 𝕄) ⊢ iprop(∃ X, ownsOn c m I X) := by
  unfold ownsOn anyOn
  iintro ⟨%f, H⟩
  iexists (m.view.read (Elt F) f); iexists f
  isplitr; · ipureintro; exact fun _ _ => rfl
  iexact H

theorem ownsOn_congr {I J : Finset s.Idx} {X Y : s.Idx → Elt F e} (hI : I = J) (h : ∀ x ∈ I, X x = Y x) :
    (ownsOn c m I X : sProp 𝕄) ⊢ ownsOn c m J Y := by
  subst hI
  unfold ownsOn
  iintro ⟨%f, %hf, H⟩
  iexists f
  isplitr; · ipureintro; exact fun x hx => (hf x hx).trans (h x hx)
  iexact H

theorem setOn_disjoint {I J : Finset s.Idx} (h : Disjoint I J) : Disjoint (m.view.setOn I) (m.view.setOn J) :=
  (Finset.disjoint_map _).mpr h

theorem setOn_union {I J : Finset s.Idx} : m.view.setOn (I ∪ J) = m.view.setOn I ∪ m.view.setOn J := Finset.map_union _ _

theorem ownsOn_split {I J K : Finset s.Idx} {X : s.Idx → Elt F e} (hK : K = I ∪ J) (h : Disjoint I J) :
    (ownsOn c m K X : sProp 𝕄) ⊢ iprop(ownsOn c m I X ∗ ownsOn c m J X) := by
  subst hK
  unfold ownsOn
  iintro ⟨%f, %hf, H⟩
  rw [setOn_union]
  ihave H := (pointsTo_union (setOn_disjoint h)).1 $$ H
  icases H with ⟨H1, H2⟩
  isplitl [H1]
  · iexists f; isplitr; · ipureintro; exact fun x hx => hf x (Finset.mem_union_left _ hx)
    iexact H1
  · iexists f; isplitr; · ipureintro; exact fun x hx => hf x (Finset.mem_union_right _ hx)
    iexact H2

theorem ownsOn_join {I J K : Finset s.Idx} {X : s.Idx → Elt F e} (hK : K = I ∪ J) (h : Disjoint I J) :
    iprop(ownsOn c m I X ∗ ownsOn c m J X) ⊢ (ownsOn c m K X : sProp 𝕄) := by
  subst hK
  unfold ownsOn
  iintro ⟨⟨%f, %hf, H1⟩, ⟨%g, %hg, H2⟩⟩
  iexists (m.view.setOn J).piecewise g f
  rw [setOn_union]
  isplitr
  · ipureintro
    intro x hx
    by_cases hJ : x ∈ J
    · rw [← hg x hJ]; exact View.read_congr_at x (Finset.piecewise_eq_of_mem _ _ _ (m.view.mem_setOn.mpr hJ))
    · rw [← hf x ((Finset.mem_union.mp hx).resolve_right hJ)]
      exact View.read_congr_at x (Finset.piecewise_eq_of_notMem _ _ _ (mt m.view.mem_setOn.mp hJ))
  · iapply (pointsTo_join (setOn_disjoint h))
    isplitl [H1] <;> iassumption

theorem anyOn_split {I J K : Finset s.Idx} (hK : K = I ∪ J) (h : Disjoint I J) :
    (anyOn c m K : sProp 𝕄) ⊢ iprop(anyOn c m I ∗ anyOn c m J) := by
  iintro H
  ihave H := anyOn_owns $$ H
  icases H with ⟨%X, H⟩
  ihave H := (ownsOn_split hK h) $$ H
  icases H with ⟨H1, H2⟩
  isplitl [H1]
  · iapply ownsOn_any; iexact H1
  · iapply ownsOn_any; iexact H2

theorem anyOn_join {I J K : Finset s.Idx} (hK : K = I ∪ J) (h : Disjoint I J) :
    iprop(anyOn c m I ∗ anyOn c m J) ⊢ (anyOn c m K : sProp 𝕄) := by
  subst hK
  unfold anyOn
  iintro ⟨⟨%f, H1⟩, ⟨%g, H2⟩⟩
  iexists (m.view.setOn J).piecewise g f
  rw [setOn_union]
  iapply (pointsTo_join (setOn_disjoint h))
  isplitl [H1] <;> iassumption

/-- A family of disjoint parts is held part by part. -/
theorem anyOn_biUnion {T : Type} [DecidableEq T] (S : Finset T) (I : T → Finset s.Idx)
    (h : ∀ t ∈ S, ∀ t' ∈ S, t ≠ t' → Disjoint (I t) (I t')) {J : Finset s.Idx} (hJ : J = S.biUnion I) :
    (anyOn c m J : sProp 𝕄) ⊢ bigSep S fun t => anyOn c m (I t) := by
  subst hJ
  induction S using Finset.induction_on with
  | empty => rw [bigSep_empty]; exact BI.true_intro
  | insert t S ht ih =>
    rw [bigSep_insert ht]
    exact (anyOn_split (Finset.biUnion_insert) ((Finset.disjoint_biUnion_right _ _ _).mpr fun t' ht' =>
        h t (Finset.mem_insert_self _ _) t' (Finset.mem_insert_of_mem ht') (fun e => ht (e ▸ ht')))).trans
      (sep_mono_right (ih fun t₁ h₁ t₂ h₂ => h t₁ (Finset.mem_insert_of_mem h₁) t₂ (Finset.mem_insert_of_mem h₂)))

/-- Contents after a store through a rectangle. -/
def upd (X : s.Idx → Elt F e) (r : Rect s) (w : r.shape.Idx → Elt F e) : s.Idx → Elt F e := fun x =>
  match preimage? r.emb x with
  | some j => w j
  | none => X x

theorem upd_emb (X : s.Idx → Elt F e) (r : Rect s) (w : r.shape.Idx → Elt F e) (j : r.shape.Idx) : upd X r w (r.emb j) = w j := by
  unfold upd; rw [preimage?_emb]

theorem mem_rect {r : Rect s} {x : s.Idx} : x ∈ r.set ↔ ∃ j, r.emb j = x := by
  constructor
  · intro h
    have h' : x ∈ Finset.univ.map r.emb := by rw [Rect.map_emb_univ]; exact h
    obtain ⟨j, -, hj⟩ := Finset.mem_map.mp h'
    exact ⟨j, hj⟩
  · rintro ⟨j, rfl⟩
    exact r.idx_mem j

theorem upd_not_mem (X : s.Idx → Elt F e) (r : Rect s) (w : r.shape.Idx → Elt F e) {x : s.Idx} (h : x ∉ r.set) : upd X r w x = X x := by
  unfold upd; rw [preimage?_eq_none fun j hj => h (mem_rect.mpr ⟨j, hj⟩)]

theorem setOn_mono {I J : Finset s.Idx} (h : I ⊆ J) : m.view.setOn I ⊆ m.view.setOn J := Finset.map_subset_map.mpr h

/-- A load reads what the elements hold. -/
theorem wp_loadOn {α : Type} {Q : α → sProp 𝕄} {r : Rect s} {I : Finset s.Idx} {X : s.Idx → Elt F e} {hl : m.view.LoadsAt r.toLoadRect}
    {k : (r.shape.Idx → Elt F e) → Prog (TpuEff nD τ sig (Elt F) Λ₀ .tc) α} (hr : r.set ⊆ I) :
    (ownsOn c m I X : sProp 𝕄) ⊢ iprop((ownsOn c m I X -∗ WP c (k fun j => X (r.emb j)) Q) -∗ WP c (.op (.load m r.toLoadRect hl) k) Q) := by
  unfold ownsOn
  iintro ⟨%f, %hf, H⟩ Hk
  iapply (wp_load Variants.none (c : Thread nD τ) none Set.univ (m := m) (r := r.toLoadRect) (setOn_mono hr)) $$ H
  iintro H
  rw [show m.view.readAt (Elt F) r.toLoadRect f = fun j => X (r.emb j) from funext fun j => hf _ (hr (r.idx_mem j))]
  iapply Hk
  iexists f
  isplitr; · ipureintro; exact hf
  iexact H

/-- A store leaves the updated contents. -/
theorem wp_storeOn {α : Type} {Q : α → sProp 𝕄} {r : Rect s} {I : Finset s.Idx} {X : s.Idx → Elt F e} {w : r.shape.Idx → Elt F e}
    {hx : (m.access r).Stores Finset.univ} {hm : Finset.univ = Finset.univ ∨ ∀ a, r.stride a = 1}
    {k : PUnit → Prog (TpuEff nD τ sig (Elt F) Λ₀ .tc) α} (hr : r.set ⊆ I) :
    (ownsOn c m I X : sProp 𝕄) ⊢ iprop((ownsOn c m I (upd X r w) -∗ WP c (k ⟨⟩) Q)
      -∗ WP c (.op (.store m r w Finset.univ hx hm) k) Q) := by
  unfold ownsOn
  iintro ⟨%f, %hf, H⟩ Hk
  have hset : (m.access r).setOn Finset.univ = m.view.setOn r.set := by
    rw [View.setOn_univ, View.set_slice]; rfl
  iapply (wp_store Variants.none (c : Thread nD τ) none Set.univ (m := m) (r := r) (Mk := Finset.univ) (S := m.view.setOn I) (hset ▸ setOn_mono hr)) $$ H
  iintro H
  iapply Hk
  iexists ((m.access r).write (Elt F) f w Finset.univ)
  isplitr
  · ipureintro
    intro x hx
    by_cases h : x ∈ r.set
    · obtain ⟨j, rfl⟩ := mem_rect.mp h
      rw [upd_emb]
      exact congrFun (View.read_write_univ (v := m.access r) (Val := Elt F) f w) j
    · rw [upd_not_mem _ _ _ h, ← hf x hx]
      exact View.read_congr_at x (View.write_of_not_mem f w _ (by rw [hset]; exact mt m.view.mem_setOn.mp h))
  iexact H

/-- Device `c` holds all of `m`, which is `Y` at the indices `I`. -/
def knows (c : Dev nD) (m : Memref sig .tc .vmem s e) (I : Finset s.Idx) (Y : s.Idx → Elt F e) : sProp 𝕄 :=
  iprop(∃ X, ⌜∀ x ∈ I, X x = Y x⌝ ∗ ownsOn c m Finset.univ X)

theorem knows_mono {I J : Finset s.Idx} {Y : s.Idx → Elt F e} (h : J ⊆ I) : (knows c m I Y : sProp 𝕄) ⊢ knows c m J Y := by
  unfold knows
  iintro ⟨%X, %hX, H⟩
  iexists X
  isplitr; · ipureintro; exact fun x hx => hX x (h hx)
  iexact H

theorem knows_all {I : Finset s.Idx} {Y : s.Idx → Elt F e} (h : ∀ x, x ∈ I) : (knows c m I Y : sProp 𝕄) ⊢ ownsOn c m Finset.univ Y := by
  unfold knows
  iintro ⟨%X, %hX, H⟩
  iapply (ownsOn_congr rfl fun x _ => hX x (h x)); iexact H

theorem anyOn_knows {Y : s.Idx → Elt F e} : (anyOn c m Finset.univ : sProp 𝕄) ⊢ knows c m ∅ Y := by
  unfold knows
  iintro H
  ihave H := anyOn_owns $$ H
  icases H with ⟨%X, H⟩
  iexists X
  isplitr; · ipureintro; exact fun x hx => absurd hx (Finset.notMem_empty x)
  iexact H

/-- A load whose value is not used. -/
theorem wp_loadKn {α : Type} {Q : α → sProp 𝕄} {r : Rect s} {I : Finset s.Idx} {Y : s.Idx → Elt F e} {hl : m.view.LoadsAt r.toLoadRect}
    {k : Prog (TpuEff nD τ sig (Elt F) Λ₀ .tc) α} :
    (knows c m I Y : sProp 𝕄) ⊢ iprop((knows c m I Y -∗ WP c k Q) -∗ WP c (.op (.load m r.toLoadRect hl) fun _ => k) Q) := by
  unfold knows
  iintro ⟨%X, %hX, H⟩ Hk
  iapply (wp_loadOn (Finset.subset_univ _)) $$ H
  iintro H
  iapply Hk
  iexists X
  isplitr; · ipureintro; exact hX
  iexact H

/-- A store of values that agree with `Y` extends where the contents are known. -/
theorem wp_storeKn {α : Type} {Q : α → sProp 𝕄} {r : Rect s} {I : Finset s.Idx} {Y : s.Idx → Elt F e} {w : r.shape.Idx → Elt F e}
    {hx : (m.access r).Stores Finset.univ} {hm : Finset.univ = Finset.univ ∨ ∀ a, r.stride a = 1}
    {k : PUnit → Prog (TpuEff nD τ sig (Elt F) Λ₀ .tc) α} (hw : ∀ j, w j = Y (r.emb j)) :
    (knows c m I Y : sProp 𝕄) ⊢ iprop((knows c m (I ∪ r.set) Y -∗ WP c (k ⟨⟩) Q) -∗ WP c (.op (.store m r w Finset.univ hx hm) k) Q) := by
  unfold knows
  iintro ⟨%X, %hX, H⟩ Hk
  iapply (wp_storeOn (Finset.subset_univ _)) $$ H
  iintro H
  iapply Hk
  iexists (upd X r w)
  isplitr
  · ipureintro
    intro x hx
    by_cases h : x ∈ r.set
    · obtain ⟨j, rfl⟩ := mem_rect.mp h
      rw [upd_emb, hw]
    · rw [upd_not_mem _ _ _ h]; exact hX x ((Finset.mem_union.mp hx).resolve_right h)
  iexact H

end Own

end Cert.KernelIdeal.Pf

end
-- ==== Proof.Geo.lean ====
module

public import proofs.«01_k».proof.Proof.Own
public import Idealize.ShloMosaic.Lib.ValueIdxCore

@[expose] public section

noncomputable section

namespace Cert.KernelIdeal.Pf

open Cert.KernelIdeal Cert.KernelIdeal.Gen
open Idealize.ShloMosaic Idealize.ShloMosaic.TcCoe Idealize.ShloMosaic.ValueIdx

/-! ## Partners and rows -/

/-- The device whose number differs from `c`'s in bit `j`. -/
def nb (j : Fin 4) (c : Dev nD) : Dev nD := ⟨(c.val ^^^ 2 ^ j.val) % 16, Nat.mod_lt _ (by decide)⟩
theorem nb_nb : ∀ (j : Fin 4) (c : Dev nD), nb j (nb j c) = c := by decide +kernel

/-- The bit exchanged at level `l` of the recursion, for each half. -/
def bt : Fin 2 → Fin 4 → Fin 4 := ![![0, 2, 1, 3], ![2, 0, 3, 1]]
/-- The level at which a bit is exchanged. -/
def lev : Fin 2 → Fin 4 → Fin 4 := ![![0, 2, 1, 3], ![1, 3, 0, 2]]
theorem bt_lev : ∀ sd j, bt sd (lev sd j) = j := by decide
theorem lev_bt : ∀ sd l, lev sd (bt sd l) = l := by decide

/-- The partner at level `l`. -/
def pr (sd : Fin 2) (l : Fin 4) (c : Dev nD) : Dev nD := nb (bt sd l) c
theorem pr_pr (sd : Fin 2) (l : Fin 4) (c : Dev nD) : pr sd l (pr sd l c) = c := nb_nb _ _

/-- The device whose reduced row is row `r`. -/
def own : Fin 2 → Fin 16 → Dev nD :=
  ![![0, 8, 2, 10, 4, 12, 6, 14, 1, 9, 3, 11, 5, 13, 7, 15], ![0, 2, 8, 10, 1, 3, 9, 11, 4, 6, 12, 14, 5, 7, 13, 15]]
theorem perm_lt : ∀ (sd : Fin 2) (q : Fin 16), perm sd q < 16 := by decide
theorem own_perm : ∀ (sd : Fin 2) (q : Fin 16), own sd ⟨perm sd q, perm_lt sd q⟩ = q := by decide
theorem perm_own : ∀ (sd : Fin 2) (r : Fin 16), perm sd (own sd r) = r.val := by decide

/-- How many rows are exchanged at a level. -/
def hh (l : Fin 4) : ℕ := ![8, 4, 2, 1] l
/-- Where the partial sums of a level arrive. -/
def oo (l : Fin 4) : ℕ := ![0, 8, 12, 14] l
/-- The width of the rows kept at depth `k`. -/
def wd (k : ℕ) : ℕ := 2 ^ (4 - k)
/-- The first row device `c` keeps at depth `k`. -/
def row (sd : Fin 2) (k : ℕ) (c : Dev nD) : ℕ := perm sd c / wd k * wd k

/-- The rows device `c` keeps at depth `k`, of a buffer of 16 rows. -/
def blk (sd : Fin 2) (k : ℕ) (c : Dev nD) : Finset (T 16).Idx := Finset.univ.filter fun x => (x 0).val / wd k = perm sd c / wd k
/-- The rows the partial sums of level `l` arrive in. -/
def stR (l : Fin 4) : Finset (T 15).Idx := Finset.univ.filter fun x => oo l ≤ (x 0).val ∧ (x 0).val < oo l + hh l
/-- The rows sent at level `l`. -/
def sbR (l : Fin 4) : Finset (T 8).Idx := Finset.univ.filter fun x => (x 0).val < hh l

theorem mem_blk {sd : Fin 2} {k : ℕ} {c : Dev nD} {x : (T 16).Idx} : x ∈ blk sd k c ↔ (x 0).val / wd k = perm sd c / wd k := by
  simp [blk]
theorem mem_stR {l : Fin 4} {x : (T 15).Idx} : x ∈ stR l ↔ oo l ≤ (x 0).val ∧ (x 0).val < oo l + hh l := by simp [stR]
theorem mem_sbR {l : Fin 4} {x : (T 8).Idx} : x ∈ sbR l ↔ (x 0).val < hh l := by simp [sbR]

theorem blk_zero (sd : Fin 2) (c : Dev nD) : blk sd 0 c = Finset.univ := by
  ext x
  rw [mem_blk]
  exact ⟨fun _ => Finset.mem_univ _, fun _ => (show ∀ (sd : Fin 2) (c p : Fin 16), p.val / wd 0 = perm sd c / wd 0 by decide) sd c (x 0)⟩

theorem blk_split (sd : Fin 2) (l : Fin 4) (c : Dev nD) : blk sd l.val c = blk sd (l.val + 1) c ∪ blk sd (l.val + 1) (pr sd l c) := by
  ext x
  rw [Finset.mem_union, mem_blk, mem_blk, mem_blk]
  exact (show ∀ (sd : Fin 2) (l : Fin 4) (c p : Fin 16), p.val / wd l.val = perm sd c / wd l.val ↔
    (p.val / wd (l.val + 1) = perm sd c / wd (l.val + 1) ∨ p.val / wd (l.val + 1) = perm sd (pr sd l c) / wd (l.val + 1)) by decide +kernel) sd l c (x 0)

theorem blk_disjoint (sd : Fin 2) (l : Fin 4) (c : Dev nD) : Disjoint (blk sd (l.val + 1) c) (blk sd (l.val + 1) (pr sd l c)) := by
  rw [Finset.disjoint_left]
  intro x
  rw [mem_blk, mem_blk]
  exact (show ∀ (sd : Fin 2) (l : Fin 4) (c p : Fin 16), p.val / wd (l.val + 1) = perm sd c / wd (l.val + 1) →
    ¬ p.val / wd (l.val + 1) = perm sd (pr sd l c) / wd (l.val + 1) by decide +kernel) sd l c (x 0)

/-- All rows but a device's own are its partners' at the four levels. -/
theorem blk_cover (sd : Fin 2) (c : Dev nD) :
    (Finset.univ : Finset (T 16).Idx) = blk sd 4 c ∪ Finset.univ.biUnion fun l : Fin 4 => blk sd (l.val + 1) (pr sd l c) := by
  ext x
  simp only [Finset.mem_univ, Finset.mem_union, Finset.mem_biUnion, true_and, true_iff, mem_blk]
  exact (show ∀ (sd : Fin 2) (c p : Fin 16), p.val / wd 4 = perm sd c / wd 4 ∨ ∃ l : Fin 4, p.val / wd (l.val + 1) = perm sd (pr sd l c) / wd (l.val + 1)
    by decide +kernel) sd c (x 0)
theorem blk_disj₁ (sd : Fin 2) (c : Dev nD) : Disjoint (blk sd 4 c) (Finset.univ.biUnion fun l : Fin 4 => blk sd (l.val + 1) (pr sd l c)) := by
  rw [Finset.disjoint_left]
  intro x
  simp only [Finset.mem_univ, Finset.mem_biUnion, true_and, mem_blk]
  exact (show ∀ (sd : Fin 2) (c p : Fin 16), p.val / wd 4 = perm sd c / wd 4 → ¬ ∃ l : Fin 4, p.val / wd (l.val + 1) = perm sd (pr sd l c) / wd (l.val + 1)
    by decide +kernel) sd c (x 0)
theorem blk_disj₂ (sd : Fin 2) (c : Dev nD) (l l' : Fin 4) (h : l ≠ l') :
    Disjoint (blk sd (l.val + 1) (pr sd l c)) (blk sd (l'.val + 1) (pr sd l' c)) := by
  rw [Finset.disjoint_left]
  intro x
  rw [mem_blk, mem_blk]
  exact (show ∀ (sd : Fin 2) (l l' : Fin 4), l ≠ l' → ∀ (c p : Fin 16), p.val / wd (l.val + 1) = perm sd (pr sd l c) / wd (l.val + 1) →
    ¬ p.val / wd (l'.val + 1) = perm sd (pr sd l' c) / wd (l'.val + 1) by decide +kernel) sd l l' h c (x 0)

theorem stR_cover : (Finset.univ : Finset (T 15).Idx) = Finset.univ.biUnion stR := by
  ext x
  simp only [Finset.mem_univ, Finset.mem_biUnion, true_and, true_iff, mem_stR]
  exact (show ∀ p : Fin 15, ∃ l : Fin 4, oo l ≤ p.val ∧ p.val < oo l + hh l by decide) (x 0)
theorem stR_disj (l l' : Fin 4) (h : l ≠ l') : Disjoint (stR l) (stR l') := by
  rw [Finset.disjoint_left]
  intro x
  rw [mem_stR, mem_stR]
  exact (show ∀ l l' : Fin 4, l ≠ l' → ∀ p : Fin 15, oo l ≤ p.val ∧ p.val < oo l + hh l → ¬ (oo l' ≤ p.val ∧ p.val < oo l' + hh l') by decide) l l' h (x 0)

/-! ## Rectangles of whole rows -/

theorem mem_R4 {n h : ℕ} {s : ℕ} {hin : ∀ a, (![s, 0, 0, 0] : Fin 4 → ℕ) a + (T h).size a ≤ (T n).size a} {x : (T n).Idx} :
    x ∈ (R4 n h ![s, 0, 0, 0] hin).set ↔ s ≤ (x 0).val ∧ (x 0).val < s + h := by
  rw [Rect.mem_set_unit]
  constructor
  · intro H; exact H 0
  · intro H a
    match a with
    | ⟨0, _⟩ => exact H
    | ⟨1, _⟩ => exact ⟨Nat.zero_le _, by simpa using (x 1).isLt⟩
    | ⟨2, _⟩ => exact ⟨Nat.zero_le _, by simpa using (x 2).isLt⟩
    | ⟨3, _⟩ => exact ⟨Nat.zero_le _, by simpa using (x 3).isLt⟩

theorem R4_blk {sd : Fin 2} {l : Fin 4} {c : Dev nD} {hin} : (R4 16 (hh l) ![row sd (l.val + 1) c, 0, 0, 0] hin).set = blk sd (l.val + 1) c := by
  ext x
  rw [mem_R4, mem_blk]
  exact (show ∀ (sd : Fin 2) (l : Fin 4) (c p : Fin 16), row sd (l.val + 1) c ≤ p.val ∧ p.val < row sd (l.val + 1) c + hh l ↔
    p.val / wd (l.val + 1) = perm sd c / wd (l.val + 1) by decide +kernel) sd l c (x 0)
theorem R4_stR {l : Fin 4} {hin} : (R4 15 (hh l) ![oo l, 0, 0, 0] hin).set = stR l := by
  ext x; rw [mem_R4, mem_stR]
theorem R4_sbR {l : Fin 4} {hin} : (R4 8 (hh l) z4 hin).set = sbR l := by
  ext x
  rw [show (R4 8 (hh l) z4 hin).set = (R4 8 (hh l) ![0, 0, 0, 0] hin).set from rfl, mem_R4, mem_sbR]
  exact ⟨fun h => by omega, fun h => ⟨Nat.zero_le _, by omega⟩⟩

/-- An index of a rectangle of rows is the row moved and the rest kept. -/
theorem R4_emb {n h s : ℕ} {hin : ∀ a, (![s, 0, 0, 0] : Fin 4 → ℕ) a + (T h).size a ≤ (T n).size a} (j : (T h).Idx) :
    (((R4 n h ![s, 0, 0, 0] hin).emb j) 0).val = s + (j 0).val ∧ (((R4 n h ![s, 0, 0, 0] hin).emb j) 1).val = (j 1).val
      ∧ (((R4 n h ![s, 0, 0, 0] hin).emb j) 2).val = (j 2).val ∧ (((R4 n h ![s, 0, 0, 0] hin).emb j) 3).val = (j 3).val := by
  refine ⟨?_, ?_, ?_, ?_⟩ <;> rw [Rect.emb_apply] <;> simp

/-! ## The transfers' offsets and partners -/

theorem dev_bar : ∀ c : Dev nD, k0_dev1 c = nb 0 c ∧ k0_dev2 c = nb 1 c ∧ k0_dev3 c = nb 2 c ∧ k0_dev4 c = nb 3 c := by decide +kernel

/-- A reduce-scatter transfer is the one of level `l` of half `sd` on device `c`. -/
structure RSok (P : RS) (l : Fin 4) (sd : Fin 2) (c : Dev nD) : Prop where
  h : P.h = hh l
  acc : P.acc = accM sd
  sb : P.sb = sbM sd
  st : P.st = stM sd
  offS : P.offS = ![row sd (l.val + 1) (pr sd l c), 0, 0, 0]
  offK : P.offK = ![row sd (l.val + 1) c, 0, 0, 0]
  o : P.o = ![oo l, 0, 0, 0]
  s : P.s = semS ⟨l.val, by omega⟩ sd
  r : P.r = semR ⟨l.val, by omega⟩ sd
  p : P.p = pr sd l c

/-- An all-gather transfer is the one of level `l` of half `sd` on device `c`. -/
structure AGok (P : AG) (l : Fin 4) (sd : Fin 2) (c : Dev nD) : Prop where
  h : P.h = hh l
  g : P.g = gM sd
  off : P.off = ![row sd (l.val + 1) c, 0, 0, 0]
  s : P.s = semS ⟨7 - l.val, by omega⟩ sd
  r : P.r = semR ⟨7 - l.val, by omega⟩ sd
  p : P.p = pr sd l c

theorem rs0_ok (c : Dev nD) (sd : Fin 2) : RSok (rs0 c sd) 0 sd c where
  h := rfl
  acc := rfl
  sb := rfl
  st := rfl
  offS := by revert c sd; decide +kernel
  offK := by revert c sd; decide +kernel
  o := rfl
  s := rfl
  r := rfl
  p := by revert c sd; decide +kernel

theorem rs1_ok (c : Dev nD) (sd : Fin 2) : RSok (rs1 c sd) 1 sd c where
  h := rfl
  acc := rfl
  sb := rfl
  st := rfl
  offS := by revert c sd; decide +kernel
  offK := by revert c sd; decide +kernel
  o := rfl
  s := rfl
  r := rfl
  p := by revert c sd; decide +kernel

theorem rs2_ok (c : Dev nD) (sd : Fin 2) : RSok (rs2 c sd) 2 sd c where
  h := rfl
  acc := rfl
  sb := rfl
  st := rfl
  offS := by revert c sd; decide +kernel
  offK := by revert c sd; decide +kernel
  o := rfl
  s := rfl
  r := rfl
  p := by revert c sd; decide +kernel

theorem rs3_ok (c : Dev nD) (sd : Fin 2) : RSok (rs3 c sd) 3 sd c where
  h := rfl
  acc := rfl
  sb := rfl
  st := rfl
  offS := by revert c sd; decide +kernel
  offK := by revert c sd; decide +kernel
  o := rfl
  s := rfl
  r := rfl
  p := by revert c sd; decide +kernel

theorem ag0_ok (c : Dev nD) (sd : Fin 2) : AGok (ag0 c sd) 3 sd c where
  h := rfl
  g := rfl
  off := by revert c sd; decide +kernel
  s := rfl
  r := rfl
  p := by revert c sd; decide +kernel

theorem ag1_ok (c : Dev nD) (sd : Fin 2) : AGok (ag1 c sd) 2 sd c where
  h := rfl
  g := rfl
  off := by revert c sd; decide +kernel
  s := rfl
  r := rfl
  p := by revert c sd; decide +kernel

theorem ag2_ok (c : Dev nD) (sd : Fin 2) : AGok (ag2 c sd) 1 sd c where
  h := rfl
  g := rfl
  off := by revert c sd; decide +kernel
  s := rfl
  r := rfl
  p := by revert c sd; decide +kernel

theorem ag3_ok (c : Dev nD) (sd : Fin 2) : AGok (ag3 c sd) 0 sd c where
  h := rfl
  g := rfl
  off := by revert c sd; decide +kernel
  s := rfl
  r := rfl
  p := by revert c sd; decide +kernel

/-- The row a device owns at the end of the reduce-scatter. -/
theorem off8_eq : ∀ (c : Dev nD) (sd : Fin 2), k0_off8 c (k0_off8_at sd).1 (k0_off8_at sd).2.1 (k0_off8_at sd).2.2.1 (k0_off8_at sd).2.2.2
    = ![row sd 4 c, 0, 0, 0] := by decide +kernel

end Cert.KernelIdeal.Pf

end
-- ==== Proof.Proto.lean ====
module

public import proofs.«01_k».proof.Proof.Geo
public import Idealize.ShloMosaic.Lib.Pipeline.Value

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Contents -/

/-- Every device's part of the output, batch by batch. -/
abbrev Parts (F : FTy → Type) [FloatOps F] := Dev nD → Fin 2 → FVec F S512x768 .f32

/-- A number rounded for sending. -/
def tr1 (a : Elt F .f32) : Elt F .bf16 := FloatOps.truncf .bf16 bitsLt_bf16_f32 a
/-- A number and a received one added. -/
def add1 (a : Elt F .f32) (b : Elt F .bf16) : Elt F .f32 := FloatOps.addf a (FloatOps.extf .f32 bitsLt_bf16_f32 b)

theorem trv_apply {t : Shape} (sc : t.ShapeCasts t) (v : FVec F t .f32) (j : t.Idx) : trv sc v j = tr1 (v j) := by
  unfold trv; rw [shapeCast_self]; rfl
theorem addv_apply {t : Shape} (sc : t.ShapeCasts t) (v : FVec F t .f32) (w : FVec F t .bf16) (j : t.Idx) : addv sc v w j = add1 (v j) (w j) := by
  unfold addv; rw [shapeCast_self]; rfl

variable (pt : Parts F)

/-- The accumulator of half `sd` on device `c` before the exchange. -/
def ACC0 (sd : Fin 2) (c : Dev nD) (x : (T 16).Idx) : Elt F .f32 :=
  pieceV (pt c (x 1)) sd (own sd (x 0)) (ix4 (0 : Fin 1) (0 : Fin 1) (x 2) (x 3))

/-- The accumulator after `k` rounds: the rows kept have the partner's added. -/
def ACC (sd : Fin 2) : ℕ → Dev nD → (T 16).Idx → Elt F .f32
  | 0, c => ACC0 pt sd c
  | k + 1, c => fun x =>
    if x ∈ blk sd (k + 1) c then add1 (ACC sd k c x) (tr1 (ACC sd k (pr sd ⟨k % 4, Nat.mod_lt _ (by decide)⟩ c) x)) else ACC sd k c x

theorem ACC_succ (sd : Fin 2) (l : Fin 4) (c : Dev nD) (x : (T 16).Idx) : ACC pt sd (l.val + 1) c x =
    if x ∈ blk sd (l.val + 1) c then add1 (ACC pt sd l.val c x) (tr1 (ACC pt sd l.val (pr sd l c) x)) else ACC pt sd l.val c x := by
  conv_lhs => unfold ACC
  rw [show (⟨l.val % 4, Nat.mod_lt _ (by decide)⟩ : Fin 4) = l from Fin.ext (Nat.mod_eq_of_lt l.isLt)]

/-- Which element of its accumulator the partner sends to an element of the landing buffer. -/
def stIdx (sd : Fin 2) (l : Fin 4) (c : Dev nD) (x : (T 15).Idx) : (T 16).Idx :=
  ix4 (⟨(row sd (l.val + 1) c + ((x 0).val - oo l)) % 16, Nat.mod_lt _ (by decide)⟩ : Fin 16) (x 1) (x 2) (x 3)

/-- What lands on device `c` at level `l`. -/
def STD (sd : Fin 2) (l : Fin 4) (c : Dev nD) (x : (T 15).Idx) : Elt F .bf16 := tr1 (ACC pt sd l.val (pr sd l c) (stIdx sd l c x))

/-- The gathered rows: every device's reduced row, rounded. -/
def GG (sd : Fin 2) (x : (T 16).Idx) : Elt F .bf16 := tr1 (ACC pt sd 4 (own sd (x 0)) x)

/-! ## Semaphores -/

/-- The level of the transfer of a phase. -/
def lvl (ph : Fin 8) : Fin 4 := if h : ph.val < 4 then ⟨ph.val, h⟩ else ⟨7 - ph.val, by omega⟩
/-- The phase of the reduce-scatter of a level. -/
def phR (l : Fin 4) : Fin 8 := ⟨l.val, by omega⟩
/-- The phase of the all-gather of a level. -/
def phG (l : Fin 4) : Fin 8 := ⟨7 - l.val, by omega⟩
theorem lvl_R : ∀ l, lvl (phR l) = l := by decide
theorem lvl_G : ∀ l, lvl (phG l) = l := by decide

/-- The partner of a phase. -/
def pa (ph : Fin 8) (sd : Fin 2) (c : Dev nD) : Dev nD := pr sd (lvl ph) c
theorem pa_pa (ph : Fin 8) (sd : Fin 2) (c : Dev nD) : pa ph sd (pa ph sd c) = c := pr_pr _ _ _

/-- What one transfer of a phase credits. -/
def amt (ph : Fin 8) : ℕ := RefSig.tileCredit (T (hh (lvl ph))) .bf16
theorem amt_pos : ∀ ph, 0 < amt ph := by decide +kernel

abbrev barCell (c : Dev nD) : GSem nD τ sig := ((c : Thread nD τ), .reg barS)
abbrev sendCell (c : Dev nD) (ph : Fin 8) (sd : Fin 2) : GSem nD τ sig := ((c : Thread nD τ), .dma (semS ph sd))
abbrev recvCell (c : Dev nD) (ph : Fin 8) (sd : Fin 2) : GSem nD τ sig := ((c : Thread nD τ), .dma (semR ph sd))

/-- The phase, half and end a semaphore belongs to. -/
def phO (i : DmaSem sig) : Fin 8 := ⟨4 * ((i.val - 6) / 16 % 2) + (i.val - 6) % 4, by omega⟩
def sdO (i : DmaSem sig) : Fin 2 := ⟨(i.val - 6) / 8 % 2, by omega⟩
def isR (i : DmaSem sig) : Prop := (i.val - 6) / 4 % 2 = 1
instance (i : DmaSem sig) : Decidable (isR i) := by unfold isR; infer_instance

theorem phO_S : ∀ ph sd, phO (semS ph sd) = ph := by decide
theorem phO_R : ∀ ph sd, phO (semR ph sd) = ph := by decide
theorem sdO_S : ∀ ph sd, sdO (semS ph sd) = sd := by decide
theorem sdO_R : ∀ ph sd, sdO (semR ph sd) = sd := by decide
theorem isR_S : ∀ ph sd, ¬ isR (semS ph sd) := by decide
theorem isR_R : ∀ ph sd, isR (semR ph sd) := by decide
theorem own_S : ∀ ph sd, 6 ≤ (semS ph sd).val := by decide
theorem own_R : ∀ ph sd, 6 ≤ (semR ph sd).val := by decide
theorem semR_inj : ∀ ph sd ph' sd', semR ph sd = semR ph' sd' → ph = ph' ∧ sd = sd' := by decide
theorem semS_ne_semR : ∀ ph sd ph' sd', semS ph sd ≠ semR ph' sd' := by decide

/-! ## The schedule -/

/-- The places device `c` sends to at level `l`, on its partner. -/
def dst (sd : Fin 2) (l : Fin 4) (c : Dev nD) : sProp 𝕄 :=
  iprop(anyOn (F := F) (pr sd l c) (stM sd) (stR l) ∗ anyOn (pr sd l c) (gM sd) (blk sd (l.val + 1) c))
/-- The signal of the partner of bit `j` hands over the places its memory is sent to. -/
def barPay (c : Dev nD) (j : Fin 4) : sProp 𝕄 := iprop(dst (F := F) 0 (lev 0 j) c ∗ dst 1 (lev 1 j) c)
/-- What a landing hands its receiver. -/
def recvPay (ph : Fin 8) (sd : Fin 2) (c : Dev nD) : sProp 𝕄 :=
  if ph.val < 4 then ownsOn c (stM sd) (stR (lvl ph)) (STD pt sd (lvl ph) c)
  else ownsOn c (gM sd) (blk sd ((lvl ph).val + 1) (pr sd (lvl ph) c)) (GG pt sd)
/-- What a landing hands back to its sender. -/
def sendPay (ph : Fin 8) (sd : Fin 2) (c : Dev nD) : sProp 𝕄 :=
  if ph.val < 4 then anyOn c (sbM sd) (sbR (lvl ph)) else ownsOn c (gM sd) (blk sd ((lvl ph).val + 1) c) (GG pt sd)

theorem recvPay_R (l : Fin 4) (sd : Fin 2) (c : Dev nD) : recvPay pt (phR l) sd c = ownsOn c (stM sd) (stR l) (STD pt sd l c) := by
  unfold recvPay; rw [if_pos (show (phR l).val < 4 from l.isLt), lvl_R]
theorem recvPay_G (l : Fin 4) (sd : Fin 2) (c : Dev nD) :
    recvPay pt (phG l) sd c = ownsOn c (gM sd) (blk sd (l.val + 1) (pr sd l c)) (GG pt sd) := by
  unfold recvPay; rw [if_neg (show ¬ (phG l).val < 4 by simp only [phG]; omega), lvl_G]
theorem sendPay_R (l : Fin 4) (sd : Fin 2) (c : Dev nD) : sendPay pt (phR l) sd c = anyOn c (sbM sd) (sbR l) := by
  unfold sendPay; rw [if_pos (show (phR l).val < 4 from l.isLt), lvl_R]
theorem sendPay_G (l : Fin 4) (sd : Fin 2) (c : Dev nD) : sendPay pt (phG l) sd c = ownsOn c (gM sd) (blk sd (l.val + 1) c) (GG pt sd) := by
  unfold sendPay; rw [if_neg (show ¬ (phG l).val < 4 by simp only [phG]; omega), lvl_G]

instance dst_storable (sd l c) : BI.Storable (upEmb : UEmb _ 𝕄) (dst (F := F) sd l c) := by unfold dst; infer_instance
instance barPay_storable (c j) : BI.Storable (upEmb : UEmb _ 𝕄) (barPay (F := F) c j) := by unfold barPay; infer_instance
instance recvPay_storable (ph sd c) : BI.Storable (upEmb : UEmb _ 𝕄) (recvPay pt ph sd c) := by unfold recvPay; split <;> infer_instance
instance sendPay_storable (ph sd c) : BI.Storable (upEmb : UEmb _ 𝕄) (sendPay pt ph sd c) := by unfold sendPay; split <;> infer_instance

/-- One round: a barrier cell has four duties of one unit, a transfer's cells one of the transfer's credit. -/
def Rd : Rounds.Schedule (GSem nD τ sig) (Fin 4) 𝕄 where
  duties g r := if r = 0 ∧ g.1.2 = .tc then (match g.2 with | .reg _ => Finset.univ | .dma _ => {0}) else ∅
  unitless _ := False
  amount g _ _ := match g.2 with | .reg _ => 1 | .dma i => amt (phO i)
  payload g _ d := match g.2 with
    | .reg _ => barPay g.1.1 d
    | .dma i => if isR i then recvPay pt (phO i) (sdO i) g.1.1 else sendPay pt (phO i) (sdO i) g.1.1
  amount_pos g _ _ _ := by
    cases g.2 with
    | reg _ => exact Nat.one_pos
    | dma i => exact amt_pos _

instance Rd_payload_storable (g : GSem nD τ sig) (r : ℕ) (d : Fin 4) : BI.Storable (upEmb : UEmb _ 𝕄) ((Rd pt).payload g r d) := by
  obtain ⟨th, sm⟩ := g
  cases sm with
  | reg _ => exact barPay_storable th.1 d
  | dma i =>
    show BI.Storable upEmb (if isR i then recvPay pt (phO i) (sdO i) th.1 else sendPay pt (phO i) (sdO i) th.1)
    split <;> infer_instance

section Sched
variable (c : Dev nD) (ph : Fin 8) (sd : Fin 2)

theorem duties_bar : (Rd pt).duties (barCell c) 0 = Finset.univ := by dsimp only [Rd]; exact if_pos ⟨rfl, rfl⟩
theorem duties_dma (i : DmaSem sig) : (Rd pt).duties ((c : Thread nD τ), .dma i) 0 = {0} := by dsimp only [Rd]; exact if_pos ⟨rfl, rfl⟩
theorem duties_later (g : GSem nD τ sig) (r : ℕ) (hr : 1 ≤ r) : (Rd pt).duties g r = ∅ := by dsimp only [Rd]; exact if_neg fun h => by omega
theorem amount_send (d : Fin 4) : (Rd pt).amount (sendCell c ph sd) 0 d = amt ph := congrArg amt (phO_S ph sd)
theorem amount_recv (d : Fin 4) : (Rd pt).amount (recvCell c ph sd) 0 d = amt ph := congrArg amt (phO_R ph sd)
theorem payload_send (d : Fin 4) : (Rd pt).payload (sendCell c ph sd) 0 d = sendPay pt ph sd c := by
  show (if isR (semS ph sd) then _ else sendPay pt (phO (semS ph sd)) (sdO (semS ph sd)) c) = _
  rw [if_neg (isR_S ph sd), phO_S, sdO_S]
theorem payload_recv (d : Fin 4) : (Rd pt).payload (recvCell c ph sd) 0 d = recvPay pt ph sd c := by
  show (if isR (semR ph sd) then recvPay pt (phO (semR ph sd)) (sdO (semR ph sd)) c else _) = _
  rw [if_pos (isR_R ph sd), phO_R, sdO_R]

theorem expect_bar : (Rd pt).expect (barCell c) 0 = 4 := by
  unfold Schedule.expect Schedule.amountOf
  rw [duties_bar]; rfl
theorem expect_send : (Rd pt).expect (sendCell c ph sd) 0 = amt ph := by
  unfold Schedule.expect Schedule.amountOf; rw [duties_dma, Finset.sum_singleton, amount_send]
theorem expect_recv : (Rd pt).expect (recvCell c ph sd) 0 = amt ph := by
  unfold Schedule.expect Schedule.amountOf; rw [duties_dma, Finset.sum_singleton, amount_recv]

theorem rest_bar : bigSep ((Rd pt).duties (barCell c) 0 \ ∅) (fun d => (Rd pt).payload (barCell c) 0 d)
    = iprop(barPay (F := F) c 0 ∗ barPay c 1 ∗ barPay c 2 ∗ barPay c 3) := by
  rw [Finset.sdiff_empty, duties_bar, bigSep_univ_eq_bigSepL [0, 1, 2, 3] (by decide) (by decide)]
  rfl
theorem rest_send : bigSep ((Rd pt).duties (sendCell c ph sd) 0 \ ∅) (fun d => (Rd pt).payload (sendCell c ph sd) 0 d) = sendPay pt ph sd c := by
  rw [Finset.sdiff_empty, duties_dma, bigSep_singleton, payload_send]
theorem rest_recv : bigSep ((Rd pt).duties (recvCell c ph sd) 0 \ ∅) (fun d => (Rd pt).payload (recvCell c ph sd) 0 d) = recvPay pt ph sd c := by
  rw [Finset.sdiff_empty, duties_dma, bigSep_singleton, payload_recv]

end Sched

/-! ## What a device owes -/

/-- When a transfer starts. -/
def tau (t : Fin 8 × Fin 2) : ℕ := 2 * t.1.val + t.2.val
theorem tau_inj : ∀ t t', tau t = tau t' → t = t' := by decide

/-- The credits device `c` has still to send when the transfers before `n` have started. -/
def OX (n : ℕ) (c : Dev nD) : CellTallies nD τ sig Unit :=
  ∑ t ∈ Finset.univ.filter (fun t : Fin 8 × Fin 2 => n ≤ tau t), tallyAt (recvCell (pa t.1 t.2 c) t.1 t.2) () (amt t.1)
/-- The units it has still to signal. -/
def OB (n : ℕ) (c : Dev nD) : CellTallies nD τ sig Unit :=
  ∑ j ∈ Finset.univ.filter (fun j : Fin 4 => n ≤ j.val), tallyAt (barCell (nb j c)) () 1
/-- What it owes at launch. -/
def O₀ (c : Dev nD) : CellTallies nD τ sig Unit := OX 0 c + OB 0 c

theorem OX_peel (ph : Fin 8) (sd : Fin 2) (n : ℕ) (hn : n = 2 * ph.val + sd.val) (c : Dev nD) :
    OX n c = OX (n + 1) c + tallyAt (recvCell (pa ph sd c) ph sd) () (amt ph) := by
  unfold OX
  rw [show Finset.univ.filter (fun t : Fin 8 × Fin 2 => n ≤ tau t) = insert (ph, sd) (Finset.univ.filter fun t => n + 1 ≤ tau t) from ?_,
    Finset.sum_insert (by simp only [Finset.mem_filter, tau, Finset.mem_univ, _root_.true_and, hn]; exact Nat.not_succ_le_self _), add_comm]
  ext t
  simp only [Finset.mem_filter, Finset.mem_univ, _root_.true_and, Finset.mem_insert]
  constructor
  · intro h
    rcases Nat.eq_or_lt_of_le h with h | h
    · exact Or.inl (tau_inj _ _ (by rw [← h, hn]; rfl))
    · exact Or.inr h
  · rintro (rfl | h)
    · exact hn.le
    · exact (Nat.le_succ _).trans h

theorem OX_end (c : Dev nD) : OX 16 c = 0 := by
  unfold OX
  rw [Finset.filter_false_of_mem (by decide), Finset.sum_empty]

theorem OB_peel (j : Fin 4) (c : Dev nD) : OB j.val c = OB (j.val + 1) c + tallyAt (barCell (nb j c)) () 1 := by
  unfold OB
  rw [show Finset.univ.filter (fun t : Fin 4 => j.val ≤ t.val) = insert j (Finset.univ.filter fun t => j.val + 1 ≤ t.val) from ?_,
    Finset.sum_insert (by simp only [Finset.mem_filter, Finset.mem_univ, _root_.true_and]; omega), add_comm]
  ext t
  simp only [Finset.mem_filter, Finset.mem_univ, _root_.true_and, Finset.mem_insert, Fin.ext_iff]
  omega
theorem OB_end (c : Dev nD) : OB 4 c = 0 := by
  unfold OB
  rw [Finset.filter_false_of_mem (by decide), Finset.sum_empty]

theorem tallyAt_pos {g g' : GSem nD τ sig} {n : ℕ} {u u' : Unit} (h : 0 < (tallyAt g u n : CellTallies nD τ sig Unit) g' u') : g' = g := by
  rw [tallyAt_apply] at h
  by_contra hn
  rw [if_neg fun h' => hn h'.1] at h
  exact Nat.lt_irrefl 0 h

theorem sum_pos_tally {I : Type} (S : Finset I) (f : I → CellTallies nD τ sig Unit) {g : GSem nD τ sig} {u : Unit}
    (h : 0 < (∑ i ∈ S, f i) g u) : ∃ i ∈ S, 0 < f i g u := by
  classical
  induction S using Finset.induction_on with
  | empty => rw [Finset.sum_empty] at h; exact absurd h (Nat.lt_irrefl 0)
  | insert i S hi ih =>
    rw [Finset.sum_insert hi, Pi.add_apply, Finsupp.add_apply] at h
    rcases Nat.eq_zero_or_pos (f i g u) with h0 | h0
    · rw [h0, Nat.zero_add] at h
      obtain ⟨k, hk, hp⟩ := ih h
      exact ⟨k, Finset.mem_insert_of_mem hk, hp⟩
    · exact ⟨i, Finset.mem_insert_self _ _, h0⟩

theorem OX_pos {n : ℕ} {c : Dev nD} {g : GSem nD τ sig} {u : Unit} (h : 0 < OX n c g u) :
    ∃ ph sd, n ≤ 2 * ph.val + sd.val ∧ g = recvCell (pa ph sd c) ph sd := by
  obtain ⟨t, ht, hp⟩ := sum_pos_tally _ _ h
  exact ⟨t.1, t.2, (Finset.mem_filter.mp ht).2, tallyAt_pos hp⟩
theorem OB_pos {n : ℕ} {c : Dev nD} {g : GSem nD τ sig} {u : Unit} (h : 0 < OB n c g u) : ∃ j, g = barCell (nb j c) := by
  obtain ⟨t, ht, hp⟩ := sum_pos_tally _ _ h
  exact ⟨t, tallyAt_pos hp⟩

def LL (g : GSem nD τ sig) : Finset Unit := if g.1.2 = .tc then {()} else ∅
/-- Barrier cells wait below receive cells, and these by their phases. -/
def lv (g : GSem nD τ sig) (_ : Unit) : ℕ := match g.2 with | .reg _ => 1 | .dma i => if isR i then 2 + (phO i).val else 0

theorem LL_of_ne (g : GSem nD τ sig) (h : g.1.2 ≠ .tc) : LL g = ∅ := if_neg h
theorem LL_tc (c : Dev nD) (sm : SemLoc sig) : LL ((c : Thread nD τ), sm) = {()} := if_pos rfl
theorem lv_recv (c : Dev nD) (ph : Fin 8) (sd : Fin 2) (u : Unit) : lv (recvCell c ph sd) u = 2 + ph.val := by
  show (if isR (semR ph sd) then 2 + (phO (semR ph sd)).val else 0) = _
  rw [if_pos (isR_R ph sd), phO_R]
theorem lv_nrecv (c : Dev nD) (i : DmaSem sig) (h : ¬ isR i) (u : Unit) : lv ((c : Thread nD τ), .dma i) u = 0 := if_neg h

/-- A device may wait on a cell below everything it owes. -/
theorem mayWait_cut (c : Dev nD) (sm : SemLoc sig) (O : CellTallies nD τ sig Unit) (k : ℕ) (hk : lv ((c : Thread nD τ), sm) () ≤ k)
    (hO : ∀ g u, 0 < O g u → g.1.2 = .tc ∧ k < lv g u) : (levAts LL lv : sProp 𝕄) ⊢ MayWait (c : Thread nD τ) sm () O :=
  MayOwe.of_cut (L := LL) (lev := lv) k (fun p hp => by rw [Finset.mem_singleton.mp hp, LL_tc]; exact Finset.mem_singleton_self _)
    (fun g u hg => by unfold LL; rw [if_pos (hO g u hg).1]; exact Finset.mem_singleton_self _)
    (fun p hp => by rw [Finset.mem_singleton.mp hp]; exact hk)
    (fun g u hg => (hO g u hg).2)

theorem OX_lv {n : ℕ} {c : Dev nD} {g : GSem nD τ sig} {u : Unit} (h : 0 < OX n c g u) : g.1.2 = .tc ∧ 2 + n / 2 ≤ lv g u := by
  obtain ⟨ph, sd, hn, rfl⟩ := OX_pos h
  exact ⟨rfl, by rw [lv_recv]; omega⟩

theorem mayWait_send (c : Dev nD) (n : ℕ) (i : DmaSem sig) (h : ¬ isR i) : (levAts LL lv : sProp 𝕄) ⊢ MayWait (c : Thread nD τ) (.dma i) () (OX n c) :=
  mayWait_cut c _ _ 0 (le_of_eq (lv_nrecv c i h ())) fun g u hg => ⟨(OX_lv hg).1, by have := (OX_lv hg).2; omega⟩
theorem mayWait_recv (c : Dev nD) (n : ℕ) (ph : Fin 8) (sd : Fin 2) (hn : 2 * ph.val + 2 ≤ n) :
    (levAts LL lv : sProp 𝕄) ⊢ MayWait (c : Thread nD τ) (.dma (semR ph sd)) () (OX n c) :=
  mayWait_cut c _ _ (2 + ph.val) (le_of_eq (lv_recv c ph sd ())) fun g u hg => ⟨(OX_lv hg).1, by have := (OX_lv hg).2; omega⟩
theorem mayWait_bar (c : Dev nD) : (levAts LL lv : sProp 𝕄) ⊢ MayWait (c : Thread nD τ) (.reg barS) () (OX 0 c) :=
  mayWait_cut c _ _ 1 le_rfl fun g u hg => ⟨(OX_lv hg).1, by have := (OX_lv hg).2; omega⟩
theorem mayWait_stage (c : Dev nD) (i : DmaSem sig) (h : ¬ isR i) : (levAts LL lv : sProp 𝕄) ⊢ MayWait (c : Thread nD τ) (.dma i) () (O₀ c) :=
  mayWait_cut c _ _ 0 (le_of_eq (lv_nrecv c i h ())) fun g u hg => by
    unfold O₀ at hg
    rw [Pi.add_apply, Finsupp.add_apply] at hg
    rcases Nat.eq_zero_or_pos (OX 0 c g u) with h0 | h0
    · rw [h0, Nat.zero_add] at hg
      obtain ⟨j, rfl⟩ := OB_pos hg
      exact ⟨rfl, Nat.one_pos⟩
    · exact ⟨(OX_lv h0).1, by have := (OX_lv h0).2; omega⟩

end Cert.KernelIdeal.Pf

end
-- ==== Proof.Xfer.lean ====
module

public import proofs.«01_k».proof.Proof.Proto

@[expose] public section

set_option maxRecDepth 8000

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and what is known of them -/

/-- A device's cells: the barrier's, and each transfer's sending (0) and receiving (1) end. -/
abbrev CI : Type := Option (Fin 2 × Fin 8 × Fin 2)
/-- The semaphore of a cell. -/
def csem : CI → SemLoc sig
  | none => .reg barS
  | some (0, ph, sd) => .dma (semS ph sd)
  | some (1, ph, sd) => .dma (semR ph sd)
abbrev kcell (ck : Dev nD × CI) : GSem nD τ sig := ((ck.1 : Thread nD τ), csem ck.2)

variable (pt : Parts F)

/-- The invariants of all cells, and that their first round is open. -/
def records (K : Dev nD × CI → ℕ) : sProp 𝕄 :=
  iprop((bigSep Finset.univ fun ck : Dev nD × CI => cellInv ER (Rd pt) (K ck) (kcell ck))
    ∗ bigSep Finset.univ fun ck : Dev nD × CI => reached ER (kcell ck) 0)
instance records_persistent (K : Dev nD × CI → ℕ) : BI.Persistent (records pt K) := by unfold records; infer_instance

/-- That, with the levels of the cells. -/
def ctx (K : Dev nD × CI → ℕ) : sProp 𝕄 := iprop(records pt K ∗ levAts LL lv)
instance ctx_persistent (K : Dev nD × CI → ℕ) : BI.Persistent (ctx pt K) := by unfold ctx; infer_instance

theorem all_inv (K : Dev nD × CI → ℕ) (ck : Dev nD × CI) :
    (bigSep Finset.univ fun ck : Dev nD × CI => (cellInv ER (Rd pt) (K ck) (kcell ck) : sProp 𝕄)) ⊢ cellInv ER (Rd pt) (K ck) (kcell ck) :=
  bigSep_elim (Finset.mem_univ ck)
theorem all_rea (ck : Dev nD × CI) :
    (bigSep Finset.univ fun ck : Dev nD × CI => (reached ER (kcell ck) 0 : sProp 𝕄)) ⊢ reached ER (kcell ck) 0 :=
  bigSep_elim (Finset.mem_univ ck)
theorem ctx_inv (K : Dev nD × CI → ℕ) (ck : Dev nD × CI) : ctx pt K ⊢ cellInv ER (Rd pt) (K ck) (kcell ck) := by
  unfold ctx records
  iintro ⟨⟨H, -⟩, -⟩
  iapply (all_inv pt K ck)
  iexact H
theorem ctx_reached (K : Dev nD × CI → ℕ) (ck : Dev nD × CI) : ctx pt K ⊢ reached ER (kcell ck) 0 := by
  unfold ctx records
  iintro ⟨⟨-, H⟩, -⟩
  iapply (all_rea (F := F) ck)
  iexact H
theorem ctx_lev (K : Dev nD × CI → ℕ) : ctx pt K ⊢ levAts LL lv := by
  unfold ctx
  iintro ⟨-, H⟩
  iexact H

/-- What device `c` owes, whatever it waited for. -/
def owesX (c : Dev nD) (O : CellTallies nD τ sig Unit) : sProp 𝕄 := iprop(∃ W, owes (c : Thread nD τ) O W)

/-- What a transfer is made with: the positions at its two ends on this device, the two tokens it pays, the credit to come. -/
def kit (ph : Fin 8) (sd : Fin 2) (c : Dev nD) : sProp 𝕄 :=
  iprop(atPos ER (sendCell c ph sd) 0 ∅ 0 ∗ atPos ER (recvCell c ph sd) 0 ∅ 0 ∗ dutyTok ER (sendCell c ph sd) 0 (0 : Fin 4)
    ∗ dutyTok ER (recvCell (pa ph sd c) ph sd) 0 (0 : Fin 4) ∗ cred (tallyAt (recvCell c ph sd) () (amt ph)))
/-- What is left of it once the transfer has started. -/
def kit' (ph : Fin 8) (sd : Fin 2) (c : Dev nD) : sProp 𝕄 :=
  iprop(atPos ER (sendCell c ph sd) 0 ∅ 0 ∗ atPos ER (recvCell c ph sd) 0 ∅ 0
    ∗ cred (tallyAt (sendCell c ph sd) () (amt ph)) ∗ cred (tallyAt (recvCell c ph sd) () (amt ph)))
/-- Its two semaphores, back at zero. -/
def fin (ph : Fin 8) (sd : Fin 2) (c : Dev nD) : sProp 𝕄 := iprop(semVal (sendCell c ph sd) 0 ∗ semVal (recvCell c ph sd) 0)

/-! ## Starting and finishing a transfer -/

section Xfer
variable (K : Dev nD × CI → ℕ) (c : Dev nD) (ph : Fin 8) (sd : Fin 2)

/-- A transfer of rows to the partner of its phase. -/
theorem wp_xfer {α : Type} {Q : α → sProp 𝕄} {k : Prog (TpuEff nD τ sig (Elt F) Λ₀ .tc) α} {n₁ n₂ h : ℕ}
    {m₁ : Memref sig .tc .vmem (T n₁) .bf16} {m₂ : Memref sig .tc .vmem (T n₂) .bf16} {o₁ o₂ : Fin 4 → ℕ} {hin₁ hin₂}
    {p : Dev nD} {s r : DmaSem sig} {X : (T n₁).Idx → Elt F .bf16} {Y : (T n₂).Idx → Elt F .bf16} {n : ℕ}
    (hp : p = pa ph sd c) (hs : s = semS ph sd) (hr : r = semR ph sd) (hh' : h = hh (lvl ph)) (hn : n = 2 * ph.val + sd.val)
    (hY : ∀ j, Y ((R4 n₂ h o₂ hin₂).emb j) = X ((R4 n₁ h o₁ hin₁).emb j))
    (hpay₁ : (ownsOn c m₁ (R4 n₁ h o₁ hin₁).set X : sProp 𝕄) ⊢ sendPay pt ph sd c)
    (hpay₂ : (ownsOn (pa ph sd c) m₂ (R4 n₂ h o₂ hin₂).set Y : sProp 𝕄) ⊢ recvPay pt ph sd (pa ph sd c))
    {hsc : (m₂.slice (R4 n₂ h o₂ hin₂) (fun _ => rfl)).view.ref.isScScratch = false} {w₁ w₂}
    {hsem : DmaTarget.Typed .vmem (.dma r) (.remote (Dev.tc p) (m₂.slice (R4 n₂ h o₂ hin₂) (fun _ => rfl)) (.dma s) hsc)} :
    iprop(ctx pt K ∗ kit ph sd c ∗ ownsOn c m₁ (R4 n₁ h o₁ hin₁).set X ∗ anyOn (pa ph sd c) m₂ (R4 n₂ h o₂ hin₂).set ∗ owesX c (OX n c))
      ⊢ iprop(((kit' ph sd c ∗ owesX c (OX (n + 1) c)) -∗ WP c k Q)
        -∗ WP c (.op (.enqueueDma (m₁.slice (R4 n₁ h o₁ hin₁) (fun _ => rfl))
            (.remote (Dev.tc p) (m₂.slice (R4 n₂ h o₂ hin₂) (fun _ => rfl)) (.dma s) hsc) (.dma r) w₁ w₂ hsem) fun _ => k) Q) := by
  subst hp hs hr hh'
  unfold ownsOn anyOn kit owesX at *
  iintro ⟨#Hc, ⟨HaS, HaR, HtS, HtR, HcR⟩, ⟨%f, %hf, H1⟩, ⟨%g, H2⟩, %W, HO⟩ Hk
  have e₁ : (m₁.slice (R4 n₁ (hh (lvl ph)) o₁ hin₁) (fun _ => rfl)).view.set = m₁.view.setOn (R4 n₁ (hh (lvl ph)) o₁ hin₁).set := View.set_slice _ _
  have e₂ : (m₂.slice (R4 n₂ (hh (lvl ph)) o₂ hin₂) (fun _ => rfl)).view.set = m₂.view.setOn (R4 n₂ (hh (lvl ph)) o₂ hin₂).set := View.set_slice _ _
  have p₁ : ((m₁.slice (R4 n₁ (hh (lvl ph)) o₁ hin₁) (fun _ => rfl)).view.loc (c : Thread nD τ)
        ↦[(m₁.slice (R4 n₁ (hh (lvl ph)) o₁ hin₁) (fun _ => rfl)).view.set]{fullShare} f : sProp 𝕄) ⊢ (Rd pt).payload (sendCell c ph sd) 0 0 := by
    rw [payload_send, e₁]
    refine BI.Entails.trans ?_ hpay₁
    show (m₁.view.loc (c : Thread nD τ) ↦[m₁.view.setOn (R4 n₁ (hh (lvl ph)) o₁ hin₁).set]{fullShare} f : sProp 𝕄) ⊢ _
    iintro H; iexists f; isplitr; · ipureintro; exact hf
    iexact H
  have p₂ : ((m₂.slice (R4 n₂ (hh (lvl ph)) o₂ hin₂) (fun _ => rfl)).view.loc (pa ph sd c : Thread nD τ)
        ↦[(m₂.slice (R4 n₂ (hh (lvl ph)) o₂ hin₂) (fun _ => rfl)).view.set]{fullShare}
          ((m₂.slice (R4 n₂ (hh (lvl ph)) o₂ hin₂) (fun _ => rfl)).view.write (Elt F) g
            ((m₁.slice (R4 n₁ (hh (lvl ph)) o₁ hin₁) (fun _ => rfl)).view.read (Elt F) f) Finset.univ) : sProp 𝕄)
      ⊢ (Rd pt).payload (recvCell (pa ph sd c) ph sd) 0 0 := by
    rw [payload_recv, e₂]
    refine BI.Entails.trans ?_ hpay₂
    generalize hw : ((m₂.slice (R4 n₂ (hh (lvl ph)) o₂ hin₂) (fun _ => rfl)).view.write (Elt F) g
      ((m₁.slice (R4 n₁ (hh (lvl ph)) o₁ hin₁) (fun _ => rfl)).view.read (Elt F) f) Finset.univ) = g'
    show (m₂.view.loc (pa ph sd c : Thread nD τ) ↦[m₂.view.setOn (R4 n₂ (hh (lvl ph)) o₂ hin₂).set]{fullShare} g' : sProp 𝕄) ⊢ _
    iintro H
    iexists g'
    isplitr
    · ipureintro
      intro x hx
      obtain ⟨j, rfl⟩ := mem_rect.mp hx
      refine Eq.trans ?_ ((hf _ ((R4 n₁ (hh (lvl ph)) o₁ hin₁).idx_mem j)).trans (hY j).symm)
      rw [← hw]
      exact congrFun (View.read_write_univ (v := (m₂.slice (R4 n₂ (hh (lvl ph)) o₂ hin₂) (fun _ => rfl)).view) (Val := Elt F) g _) j
    iexact H
  iapply (Rounds.wp_send_pointsTo Variants.none ER (Rd pt) (c : Thread nD τ) none (κ₁ := K (c, some (0, ph, sd))) (κ₂ := K (pa ph sd c, some (1, ph, sd)))
    (src := m₁.slice (R4 n₁ (hh (lvl ph)) o₁ hin₁) (fun _ => rfl)) (dst := m₂.slice (R4 n₂ (hh (lvl ph)) o₂ hin₂) (fun _ => rfl))
    (sS := .dma (semS ph sd)) (sem := .dma (semR ph sd)) (c' := (pa ph sd c : Thread nD τ))
    (r₁ := 0) (r₂ := 0) (d₁ := 0) (d₂ := 0) (fs := f) (fd := g) (q := fullShare)
    (by rw [duties_dma]; exact Finset.mem_singleton_self _) (by rw [duties_dma]; exact Finset.mem_singleton_self _)
    () () (amt ph) rfl (amount_send pt c ph sd 0) (amount_recv pt (pa ph sd c) ph sd 0) (OX (n + 1) c) (OX_peel ph sd n hn c) (W := W)
    p₁ p₂) $$ [HtS HtR H1 H2 HO]
  · isplitr; · iapply (ctx_inv pt K (c, some (0, ph, sd))); iexact Hc
    isplitr; · iapply (ctx_inv pt K (pa ph sd c, some (1, ph, sd))); iexact Hc
    isplitl [H1]; · rw [e₁]; iexact H1
    isplitl [H2]; · rw [e₂]; iexact H2
    isplitl [HO]; · iexact HO
    isplitl [HtS]; · iexact HtS
    isplitr; · iapply (ctx_reached pt K (c, some (0, ph, sd))); iexact Hc
    isplitl [HtR]; · iexact HtR
    iapply (ctx_reached pt K (pa ph sd c, some (1, ph, sd))); iexact Hc
  iintro ⟨HcS, HO⟩
  iapply Hk
  unfold kit'
  isplitr [HO]
  · isplitl [HaS]; · iexact HaS
    isplitl [HaR]; · iexact HaR
    isplitl [HcS] <;> iassumption
  iexists W; iexact HO

/-- The two waits that finish a transfer. -/
theorem wp_xfin {α : Type} {Q : α → sProp 𝕄} {k : Prog (TpuEff nD τ sig (Elt F) Λ₀ .tc) α} {s₁ s₂ s₃ s₄ : Shape}
    {a₁ : Memref sig .tc .vmem s₁ .bf16} {a₂ : Memref sig .tc .vmem s₂ .bf16} {a₃ : Memref sig .tc .vmem s₃ .bf16} {a₄ : Memref sig .tc .vmem s₄ .bf16}
    {s r : DmaSem sig} {n : ℕ} (hs : s = semS ph sd) (hr : r = semR ph sd) (hn : 2 * ph.val + 2 ≤ n)
    (h₂ : a₂.view.dmaCredit = amt ph) (h₄ : a₄.view.dmaCredit = amt ph) {w₁ w₂ w₃ w₄} :
    iprop(ctx pt K ∗ kit' ph sd c ∗ owesX c (OX n c))
      ⊢ iprop(((fin ph sd c ∗ sendPay pt ph sd c ∗ recvPay pt ph sd c ∗ owesX c (OX n c)) -∗ WP c k Q)
        -∗ WP c (.op (.waitDma2 s a₁ a₂ w₁ w₂) fun _ => .op (.waitDma2 r a₃ a₄ w₃ w₄) fun _ => k) Q) := by
  subst hs hr
  unfold kit' owesX
  iintro ⟨#Hc, ⟨HaS, HaR, HcS, HcR⟩, %W, HO⟩ Hk
  have hm₁ : ctx pt K ⊢ MayWait (c : Thread nD τ) (.dma (semS ph sd)) () (OX n c) := by
    have h := mayWait_send (F := F) c n (semS ph sd) (isR_S ph sd)
    have h' := ctx_lev pt K
    exact h'.trans h
  have hm₂ : ctx pt K ⊢ MayWait (c : Thread nD τ) (.dma (semR ph sd)) () (OX n c) := BI.Entails.trans (ctx_lev pt K) (mayWait_recv (F := F) c n ph sd hn)
  have hw₂ : ∀ K' : PUnit → sProp 𝕄, wpE (defs₀ (F := F)) Variants.none (c : Thread nD τ) none Set.univ (.waitDma2 (semS ph sd) a₁ a₂ w₁ w₂) K'
      = waitSpec (c : Thread nD τ) Set.univ (.dma (semS ph sd)) (amt ph) K' := fun K' => by rw [← h₂]; exact wpE_waitDma2_eq _ _ _ _ _
  have hw₄ : ∀ K' : PUnit → sProp 𝕄, wpE (defs₀ (F := F)) Variants.none (c : Thread nD τ) none Set.univ (.waitDma2 (semR ph sd) a₃ a₄ w₃ w₄) K'
      = waitSpec (c : Thread nD τ) Set.univ (.dma (semR ph sd)) (amt ph) K' := fun K' => by rw [← h₄]; exact wpE_waitDma2_eq _ _ _ _ _
  iapply (Rounds.wp_wait_rest_token Variants.none ER (Rd pt) (c : Thread nD τ) none (κ := K (c, some (0, ph, sd)))
      hw₂ (Set.mem_univ _) (k' := amt ph) () (O := OX n c) (W := W) (R := 0) (m := 0) (T := ∅)
      (by rw [Nat.zero_add, expect_send])) $$ [HcS HO HaS]
  · isplitr; · iapply (ctx_inv pt K (c, some (0, ph, sd))); iexact Hc
    isplitl [HcS]; · iexact HcS
    isplitl [HO]; · iexact HO
    isplitr; · iapply hm₁; iexact Hc
    iexact HaS
  iintro ⟨HO, HaS, -, HpS⟩
  ihave HpS := (Entails.of_eq (rest_send pt c ph sd)) $$ HpS
  iapply (Rounds.wp_wait_rest_token Variants.none ER (Rd pt) (c : Thread nD τ) none (κ := K (c, some (1, ph, sd)))
      hw₄ (Set.mem_univ _) (k' := amt ph) () (O := OX n c) (R := 0) (m := 0) (T := ∅)
      (by rw [Nat.zero_add, expect_recv])) $$ [HcR HO HaR]
  · isplitr; · iapply (ctx_inv pt K (c, some (1, ph, sd))); iexact Hc
    isplitl [HcR]; · iexact HcR
    isplitl [HO]; · iexact HO
    isplitr; · iapply hm₂; iexact Hc
    iexact HaR
  iintro ⟨HO, HaR, -, HpR⟩
  ihave HpR := (Entails.of_eq (rest_recv pt c ph sd)) $$ HpR
  imod (Rounds.cell_close ER (Rd pt) (Set.mem_univ (K (c, some (0, ph, sd)))) (fun h => h) (R := 0 + 1) (duties_later pt (sendCell c ph sd))) $$ [HaS] with HzS
  · isplitr; · iapply (ctx_inv pt K (c, some (0, ph, sd))); iexact Hc
    iexact HaS
  imod (Rounds.cell_close ER (Rd pt) (Set.mem_univ (K (c, some (1, ph, sd)))) (fun h => h) (R := 0 + 1) (duties_later pt (recvCell c ph sd))) $$ [HaR] with HzR
  · isplitr; · iapply (ctx_inv pt K (c, some (1, ph, sd))); iexact Hc
    iexact HaR
  iapply Hk
  unfold fin
  isplitl [HzS HzR]
  · isplitl [HzS] <;> iassumption
  isplitl [HpS]; · iexact HpS
  isplitl [HpR]; · iexact HpR
  iexists _; iexact HO

end Xfer

end Cert.KernelIdeal.Pf

end
-- ==== Proof.Comm.lean ====
module

public import proofs.«01_k».proof.Proof.Xfer

@[expose] public section

set_option maxRecDepth 8000

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Where the rows go -/

theorem row_add_lt : ∀ (sd : Fin 2) (l : Fin 4) (c : Dev nD), row sd (l.val + 1) c + hh l ≤ 16 := by decide +kernel

/-- The landing buffer's rows of a level are the rows kept, in order. -/
theorem stIdx_emb (sd : Fin 2) (l : Fin 4) (c : Dev nD) {hin hin'} (j : (T (hh l)).Idx) :
    stIdx sd l c ((R4 15 (hh l) ![oo l, 0, 0, 0] hin).emb j) = (R4 16 (hh l) ![row sd (l.val + 1) c, 0, 0, 0] hin').emb j := by
  have a := R4_emb (hin := hin) j
  have b := R4_emb (hin := hin') j
  have hj : (j 0).val < hh l := (j 0).isLt
  have hr := row_add_lt sd l c
  funext i
  match i with
  | ⟨0, _⟩ =>
    refine Fin.ext ?_
    show (row sd (l.val + 1) c + ((((R4 15 (hh l) ![oo l, 0, 0, 0] hin).emb j) 0).val - oo l)) % 16 = _
    rw [a.1, Nat.add_sub_cancel_left, Nat.mod_eq_of_lt (by omega)]
    exact b.1.symm
  | ⟨1, _⟩ => exact Fin.ext (a.2.1.trans b.2.1.symm)
  | ⟨2, _⟩ => exact Fin.ext (a.2.2.1.trans b.2.2.1.symm)
  | ⟨3, _⟩ => exact Fin.ext (a.2.2.2.trans b.2.2.2.symm)

theorem own_blk (sd : Fin 2) (c : Dev nD) (x : (T 16).Idx) (h : x ∈ blk sd 4 c) : own sd (x 0) = c :=
  (show ∀ (sd : Fin 2) (c p : Fin 16), p.val / wd 4 = perm sd c / wd 4 → own sd p = c by decide +kernel) sd c (x 0) (mem_blk.mp h)

variable (pt : Parts F) (K : Dev nD × CI → ℕ) (c : Dev nD)

/-! ## The reduce-scatter -/

/-- What lands on the partner is what was put in the send buffer. -/
theorem sent_eq (l : Fin 4) (sd : Fin 2) {hS hb ho} {sc : (T (hh l)).ShapeCasts (T (hh l))} {X : (T 8).Idx → Elt F .bf16} (j : (T (hh l)).Idx) :
    STD pt sd l (pr sd l c) ((R4 15 (hh l) ![oo l, 0, 0, 0] ho).emb j)
      = upd X (R4 8 (hh l) z4 hb) (trv sc fun j => ACC pt sd l.val c ((R4 16 (hh l) ![row sd (l.val + 1) (pr sd l c), 0, 0, 0] hS).emb j))
          ((R4 8 (hh l) z4 hb).emb j) := by
  rw [upd_emb]
  refine Eq.trans ?_ (trv_apply sc _ j).symm
  rw [STD, stIdx_emb (hin' := hS), pr_pr]

/-- Round the rows to be given away into the send buffer and start their transfer. -/
theorem wp_rsStart {Q : PUnit → sProp 𝕄} {k : Pg F} {P : RS} {l : Fin 4} {sd : Fin 2} (hP : RSok P l sd c) {n : ℕ} (hn : n = 2 * l.val + sd.val) :
    iprop(ctx pt K ∗ kit (phR l) sd c ∗ ownsOn c (accM sd) Finset.univ (ACC pt sd l.val c) ∗ anyOn c (sbM sd) Finset.univ
        ∗ anyOn (pr sd l c) (stM sd) (stR l) ∗ owesX c (OX n c))
      ⊢ iprop(((kit' (phR l) sd c ∗ ownsOn c (accM sd) Finset.univ (ACC pt sd l.val c) ∗ anyOn c (sbM sd) (Finset.univ \ sbR l)
          ∗ owesX c (OX (n + 1) c)) -∗ WP c k Q) -∗ WP c (rsStart P k) Q) := by
  obtain ⟨h, acc, sb, st, offS, offK, o, s, r, p, hS, hK, hb, ho, lS, lK, lb, lo, sS, sK, wb, wo, sc⟩ := P
  obtain ⟨e1, e2, e3, e4, e5, e6, e7, e8, e9, e10⟩ := hP
  dsimp only at e1 e2 e3 e4 e5 e6 e7 e8 e9 e10
  subst e1 e2 e3 e4 e5 e6 e7 e10
  unfold rsStart
  dsimp only
  iintro ⟨#Hc, Hkit, Hacc, Hsb, Hst, HO⟩ Hk
  iapply (wp_loadOn (Finset.subset_univ _)) $$ Hacc
  iintro Hacc
  ihave Hsb := anyOn_owns $$ Hsb
  icases Hsb with ⟨%X, Hsb⟩
  iapply (wp_loadOn (Finset.subset_univ _)) $$ Hsb
  iintro Hsb
  iapply (wp_storeOn (Finset.subset_univ _)) $$ Hsb
  iintro Hsb
  ihave Hsb := (ownsOn_split (I := (R4 8 (hh l) z4 hb).set) (J := Finset.univ \ (R4 8 (hh l) z4 hb).set)
    (Finset.union_sdiff_of_subset (Finset.subset_univ _)).symm Finset.disjoint_sdiff) $$ Hsb
  icases Hsb with ⟨Hsb, Hsb'⟩
  have hl : lvl (phR l) = l := lvl_R l
  have hpa : pa (phR l) sd c = pr sd l c := by unfold pa; rw [hl]
  iapply (wp_xfer pt K c (phR l) sd (X := upd X (R4 8 (hh l) z4 hb) (trv sc fun j => ACC pt sd l.val c ((R4 16 (hh l) ![row sd (l.val + 1) (pr sd l c), 0, 0, 0] hS).emb j)))
    (Y := STD pt sd l (pr sd l c)) (n := n) hpa.symm e8 e9 (by rw [hl]) hn
    (fun j => sent_eq pt c l sd j)
    (by rw [sendPay_R, R4_sbR]; exact ownsOn_any)
    (by rw [hpa, recvPay_R, R4_stR])) $$ [Hkit Hsb Hst HO]
  · isplitr; · iexact Hc
    isplitl [Hkit]; · iexact Hkit
    isplitl [Hsb]; · iexact Hsb
    isplitl [Hst]; · rw [hpa, R4_stR]; iexact Hst
    iexact HO
  iintro ⟨Hkit, HO⟩
  iapply Hk
  isplitl [Hkit]; · iexact Hkit
  isplitl [Hacc]; · iexact Hacc
  isplitl [Hsb']
  · rw [R4_sbR]; iapply ownsOn_any; iexact Hsb'
  iexact HO

theorem sb_credit (l : Fin 4) (sd : Fin 2) {hb} : ((sbM sd).slice (R4 8 (hh l) z4 hb) (fun _ => rfl)).view.dmaCredit = amt (phR l) := by
  unfold amt; rw [lvl_R]; rfl
theorem st_credit (l : Fin 4) (sd : Fin 2) {o hb} : ((stM sd).slice (R4 15 (hh l) o hb) (fun _ => rfl)).view.dmaCredit = amt (phR l) := by
  unfold amt; rw [lvl_R]; rfl
theorem g_credit (l : Fin 4) (sd : Fin 2) {o hb} : ((gM sd).slice (R4 16 (hh l) o hb) (fun _ => rfl)).view.dmaCredit = amt (phG l) := by
  unfold amt; rw [lvl_G]; rfl

/-- Wait for both ends and add what came in to the rows kept. -/
theorem wp_rsFin {Q : PUnit → sProp 𝕄} {k : Pg F} {P : RS} {l : Fin 4} {sd : Fin 2} (hP : RSok P l sd c) {n : ℕ} (hn : 2 * l.val + 2 ≤ n) :
    iprop(ctx pt K ∗ kit' (phR l) sd c ∗ ownsOn c (accM sd) Finset.univ (ACC pt sd l.val c) ∗ anyOn c (sbM sd) (Finset.univ \ sbR l)
        ∗ owesX c (OX n c))
      ⊢ iprop(((fin (phR l) sd c ∗ ownsOn c (accM sd) Finset.univ (ACC pt sd (l.val + 1) c) ∗ anyOn c (sbM sd) Finset.univ
          ∗ anyOn c (stM sd) (stR l) ∗ owesX c (OX n c)) -∗ WP c k Q) -∗ WP c (rsFin P k) Q) := by
  obtain ⟨h, acc, sb, st, offS, offK, o, s, r, p, hS, hK, hb, ho, lS, lK, lb, lo, sS, sK, wb, wo, sc⟩ := P
  obtain ⟨e1, e2, e3, e4, e5, e6, e7, e8, e9, e10⟩ := hP
  dsimp only at e1 e2 e3 e4 e5 e6 e7 e8 e9 e10
  subst e1 e2 e3 e4 e5 e6 e7 e10
  unfold rsFin
  dsimp only
  iintro ⟨#Hc, Hkit, Hacc, Hsb', HO⟩ Hk
  iapply (wp_xfin pt K c (phR l) sd (n := n) e8 e9 hn (sb_credit l sd) (st_credit l sd)) $$ [Hkit HO]
  · isplitr; · iexact Hc
    isplitl [Hkit] <;> iassumption
  rw [sendPay_R, recvPay_R]
  iintro ⟨Hfin, Hsb, Hst, HO⟩
  iapply (wp_loadOn (Finset.subset_univ _)) $$ Hacc
  iintro Hacc
  iapply (wp_loadOn (r := R4 15 (hh l) ![oo l, 0, 0, 0] ho) (by rw [R4_stR])) $$ Hst
  iintro Hst
  iapply (wp_loadOn (Finset.subset_univ _)) $$ Hacc
  iintro Hacc
  iapply (wp_storeOn (Finset.subset_univ _)) $$ Hacc
  iintro Hacc
  iapply Hk
  isplitl [Hfin]; · iexact Hfin
  isplitl [Hacc]
  · iapply (ownsOn_congr rfl (fun x _ => ?_)) $$ Hacc
    rw [ACC_succ]
    by_cases hx : x ∈ (R4 16 (hh l) ![row sd (l.val + 1) c, 0, 0, 0] hK).set
    · rw [if_pos (R4_blk (hin := hK) ▸ hx)]
      obtain ⟨j, rfl⟩ := mem_rect.mp hx
      rw [upd_emb, addv_apply, STD, stIdx_emb]
    · rw [upd_not_mem _ _ _ hx, if_neg (R4_blk (hin := hK) ▸ hx)]
  isplitl [Hsb Hsb']
  · iapply (anyOn_join (I := sbR l) (J := Finset.univ \ sbR l) (Finset.union_sdiff_of_subset (Finset.subset_univ _)).symm Finset.disjoint_sdiff)
    isplitl [Hsb] <;> iassumption
  isplitl [Hst]; · iapply ownsOn_any; iexact Hst
  iexact HO

/-! ## The all-gather -/

theorem wp_agStart {Q : PUnit → sProp 𝕄} {k : Pg F} {P : AG} {l : Fin 4} {sd : Fin 2} (hP : AGok P l sd c) {n : ℕ} (hn : n = 2 * (7 - l.val) + sd.val) :
    iprop(ctx pt K ∗ kit (phG l) sd c ∗ ownsOn c (gM sd) (blk sd (l.val + 1) c) (GG pt sd)
        ∗ anyOn (pr sd l c) (gM sd) (blk sd (l.val + 1) c) ∗ owesX c (OX n c))
      ⊢ iprop(((kit' (phG l) sd c ∗ owesX c (OX (n + 1) c)) -∗ WP c k Q) -∗ WP c (agStart P k) Q) := by
  obtain ⟨h, g, off, s, r, p, hin, w⟩ := P
  obtain ⟨e1, e2, e3, e4, e5, e6⟩ := hP
  dsimp only at e1 e2 e3 e4 e5 e6
  subst e1 e2 e3 e6
  unfold agStart
  dsimp only
  have hl : lvl (phG l) = l := lvl_G l
  have hpa : pa (phG l) sd c = pr sd l c := by unfold pa; rw [hl]
  iintro ⟨#Hc, Hkit, Hg, Hd, HO⟩ Hk
  iapply (wp_xfer pt K c (phG l) sd (X := GG pt sd) (Y := GG pt sd) (n := n) hpa.symm e4 e5 (by rw [hl]) hn (fun j => rfl)
    (by rw [sendPay_G, R4_blk])
    (by rw [hpa, recvPay_G, R4_blk, pr_pr])) $$ [Hkit Hg Hd HO]
  · isplitr; · iexact Hc
    isplitl [Hkit]; · iexact Hkit
    isplitl [Hg]; · rw [R4_blk]; iexact Hg
    isplitl [Hd]; · rw [hpa, R4_blk]; iexact Hd
    iexact HO
  iexact Hk

theorem wp_agFin {Q : PUnit → sProp 𝕄} {k : Pg F} {P : AG} {l : Fin 4} {sd : Fin 2} (hP : AGok P l sd c) {n : ℕ} (hn : 2 * (7 - l.val) + 2 ≤ n) :
    iprop(ctx pt K ∗ kit' (phG l) sd c ∗ owesX c (OX n c))
      ⊢ iprop(((fin (phG l) sd c ∗ ownsOn c (gM sd) (blk sd l.val c) (GG pt sd) ∗ owesX c (OX n c)) -∗ WP c k Q) -∗ WP c (agFin P k) Q) := by
  obtain ⟨h, g, off, s, r, p, hin, w⟩ := P
  obtain ⟨e1, e2, e3, e4, e5, e6⟩ := hP
  dsimp only at e1 e2 e3 e4 e5 e6
  subst e1 e2 e3 e6
  unfold agFin
  dsimp only
  iintro ⟨#Hc, Hkit, HO⟩ Hk
  iapply (wp_xfin pt K c (phG l) sd (n := n) e4 e5 hn (g_credit l sd) (g_credit l sd)) $$ [Hkit HO]
  · isplitr; · iexact Hc
    isplitl [Hkit] <;> iassumption
  rw [sendPay_G, recvPay_G]
  iintro ⟨Hfin, H1, H2, HO⟩
  iapply Hk
  isplitl [Hfin]; · iexact Hfin
  isplitl [H1 H2]
  · iapply (ownsOn_join (blk_split sd l c) (blk_disjoint sd l c))
    isplitl [H1] <;> iassumption
  iexact HO

/-- A device rounds its reduced row into the gather buffer. -/
theorem wp_gStore {Q : PUnit → sProp 𝕄} {k : Pg F} {sd : Fin 2} {off : Fin 4 → ℕ} (ho : off = ![row sd 4 c, 0, 0, 0]) {hin la lg sg sc} :
    iprop(ownsOn c (accM sd) Finset.univ (ACC pt sd 4 c) ∗ anyOn c (gM sd) (blk sd 4 c))
      ⊢ iprop(((ownsOn c (accM sd) Finset.univ (ACC pt sd 4 c) ∗ ownsOn c (gM sd) (blk sd 4 c) (GG pt sd)) -∗ WP c k Q)
        -∗ WP c (gStore (accM sd) (gM sd) off hin la lg sg sc k) Q) := by
  subst ho
  have hs : (R4 16 1 ![row sd 4 c, 0, 0, 0] hin).set = blk sd 4 c := R4_blk (l := 3)
  unfold gStore
  iintro ⟨Hacc, Hg⟩ Hk
  iapply (wp_loadOn (Finset.subset_univ _)) $$ Hacc
  iintro Hacc
  ihave Hg := anyOn_owns $$ Hg
  icases Hg with ⟨%X, Hg⟩
  iapply (wp_loadOn (r := R4 16 1 ![row sd 4 c, 0, 0, 0] hin) hs.subset) $$ Hg
  iintro Hg
  iapply (wp_storeOn (r := R4 16 1 ![row sd 4 c, 0, 0, 0] hin) hs.subset) $$ Hg
  iintro Hg
  iapply Hk
  isplitl [Hacc]; · iexact Hacc
  iapply (ownsOn_congr rfl (fun x hx => ?_)) $$ Hg
  rw [← hs] at hx
  obtain ⟨j, rfl⟩ := mem_rect.mp hx
  rw [upd_emb]
  refine (trv_apply sc _ j).trans ?_
  unfold GG
  rw [own_blk sd c _ (hs ▸ hx)]

end Cert.KernelIdeal.Pf

end
-- ==== Proof.Round.lean ====
module

public import proofs.«01_k».proof.Proof.Comm

@[expose] public section

set_option maxRecDepth 8000

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pt : Parts F) (K : Dev nD × CI → ℕ) (c : Dev nD)

/-! ## What the two halves hold together -/

/-- The kits of both halves of a phase. -/
def kp (ph : Fin 8) : sProp 𝕄 := iprop(kit (F := F) ph 0 c ∗ kit ph 1 c)
/-- Their semaphores, back at zero. -/
def fp (ph : Fin 8) : sProp 𝕄 := iprop(fin (F := F) ph 0 c ∗ fin ph 1 c)
/-- The accumulators after `k` rounds. -/
def accs (k : ℕ) : sProp 𝕄 := iprop(ownsOn c (accM 0) Finset.univ (ACC pt 0 k c) ∗ ownsOn c (accM 1) Finset.univ (ACC pt 1 k c))
/-- The send buffers. -/
def sbs : sProp 𝕄 := iprop(anyOn (F := F) c (sbM 0) Finset.univ ∗ anyOn c (sbM 1) Finset.univ)
/-- The partners' places of a level of the reduce-scatter. -/
def SR (l : Fin 4) : sProp 𝕄 := iprop(anyOn (F := F) (pr 0 l c) (stM 0) (stR l) ∗ anyOn (pr 1 l c) (stM 1) (stR l))
/-- The partners' places of a level of the all-gather. -/
def GR (l : Fin 4) : sProp 𝕄 := iprop(anyOn (F := F) (pr 0 l c) (gM 0) (blk 0 (l.val + 1) c) ∗ anyOn (pr 1 l c) (gM 1) (blk 1 (l.val + 1) c))
/-- A device's own places of a level of the reduce-scatter. -/
def TR (l : Fin 4) : sProp 𝕄 := iprop(anyOn (F := F) c (stM 0) (stR l) ∗ anyOn c (stM 1) (stR l))
/-- The gathered rows at depth `k`. -/
def gs (k : ℕ) : sProp 𝕄 := iprop(ownsOn c (gM 0) (blk 0 k c) (GG pt 0) ∗ ownsOn c (gM 1) (blk 1 k c) (GG pt 1))

/-- One round of the reduce-scatter adds the partners' rows. -/
theorem wp_rsRound {Q : PUnit → sProp 𝕄} {k : Pg F} {P : Fin 2 → RS} {l : Fin 4} (hP : ∀ sd, RSok (P sd) l sd c) {n n' : ℕ} (hn : n = 2 * l.val)
    (hn' : n' = n + 2) :
    iprop(ctx pt K ∗ kp c (phR l) ∗ accs pt c l.val ∗ sbs c ∗ SR c l ∗ owesX c (OX n c))
      ⊢ iprop(((fp c (phR l) ∗ accs pt c (l.val + 1) ∗ sbs c ∗ TR c l ∗ owesX c (OX n' c)) -∗ WP c k Q) -∗ WP c (rsRound P k) Q) := by
  subst hn'
  unfold rsRound kp fp accs sbs SR TR
  iintro ⟨#Hc, ⟨K0, K1⟩, ⟨A0, A1⟩, ⟨B0, B1⟩, ⟨S0, S1⟩, HO⟩ Hk
  iapply (wp_rsStart pt K c (hP 0) (n := n) (by rw [hn]; rfl)) $$ [K0 A0 B0 S0 HO]
  · isplitr; · iexact Hc
    isplitl [K0]; · iexact K0
    isplitl [A0]; · iexact A0
    isplitl [B0]; · iexact B0
    isplitl [S0] <;> iassumption
  iintro ⟨K0, A0, B0, HO⟩
  iapply (wp_rsStart pt K c (hP 1) (n := n + 1) (by rw [hn]; rfl)) $$ [K1 A1 B1 S1 HO]
  · isplitr; · iexact Hc
    isplitl [K1]; · iexact K1
    isplitl [A1]; · iexact A1
    isplitl [B1]; · iexact B1
    isplitl [S1] <;> iassumption
  iintro ⟨K1, A1, B1, HO⟩
  iapply (wp_rsFin pt K c (hP 0) (n := n + 1 + 1) (by omega)) $$ [K0 A0 B0 HO]
  · isplitr; · iexact Hc
    isplitl [K0]; · iexact K0
    isplitl [A0]; · iexact A0
    isplitl [B0] <;> iassumption
  iintro ⟨K0, A0, B0, S0, HO⟩
  iapply (wp_rsFin pt K c (hP 1) (n := n + 1 + 1) (by omega)) $$ [K1 A1 B1 HO]
  · isplitr; · iexact Hc
    isplitl [K1]; · iexact K1
    isplitl [A1]; · iexact A1
    isplitl [B1] <;> iassumption
  iintro ⟨K1, A1, B1, S1, HO⟩
  iapply Hk
  isplitl [K0 K1]; · isplitl [K0] <;> iassumption
  isplitl [A0 A1]; · isplitl [A0] <;> iassumption
  isplitl [B0 B1]; · isplitl [B0] <;> iassumption
  isplitl [S0 S1]; · isplitl [S0] <;> iassumption
  iexact HO

/-- One round of the all-gather doubles the rows gathered. -/
theorem wp_agRound {Q : PUnit → sProp 𝕄} {k : Pg F} {P : Fin 2 → AG} {l : Fin 4} (hP : ∀ sd, AGok (P sd) l sd c) {n n' : ℕ} (hn : n = 2 * (7 - l.val))
    (hn' : n' = n + 2) :
    iprop(ctx pt K ∗ kp c (phG l) ∗ gs pt c (l.val + 1) ∗ GR c l ∗ owesX c (OX n c))
      ⊢ iprop(((fp c (phG l) ∗ gs pt c l.val ∗ owesX c (OX n' c)) -∗ WP c k Q) -∗ WP c (agRound P k) Q) := by
  subst hn'
  unfold agRound kp fp gs GR
  iintro ⟨#Hc, ⟨K0, K1⟩, ⟨A0, A1⟩, ⟨S0, S1⟩, HO⟩ Hk
  iapply (wp_agStart pt K c (hP 0) (n := n) (by rw [hn]; rfl)) $$ [K0 A0 S0 HO]
  · isplitr; · iexact Hc
    isplitl [K0]; · iexact K0
    isplitl [A0]; · iexact A0
    isplitl [S0] <;> iassumption
  iintro ⟨K0, HO⟩
  iapply (wp_agStart pt K c (hP 1) (n := n + 1) (by rw [hn]; rfl)) $$ [K1 A1 S1 HO]
  · isplitr; · iexact Hc
    isplitl [K1]; · iexact K1
    isplitl [A1]; · iexact A1
    isplitl [S1] <;> iassumption
  iintro ⟨K1, HO⟩
  iapply (wp_agFin pt K c (hP 0) (n := n + 1 + 1) (by omega)) $$ [K0 HO]
  · isplitr; · iexact Hc
    isplitl [K0] <;> iassumption
  iintro ⟨K0, A0, HO⟩
  iapply (wp_agFin pt K c (hP 1) (n := n + 1 + 1) (by omega)) $$ [K1 HO]
  · isplitr; · iexact Hc
    isplitl [K1] <;> iassumption
  iintro ⟨K1, A1, HO⟩
  iapply Hk
  isplitl [K0 K1]; · isplitl [K0] <;> iassumption
  isplitl [A0 A1]; · isplitl [A0] <;> iassumption
  iexact HO

/-- A device rounds its two reduced rows. -/
theorem wp_gSts {Q : PUnit → sProp 𝕄} {k : Pg F} :
    iprop(accs pt c 4 ∗ anyOn c (gM 0) (blk 0 4 c) ∗ anyOn c (gM 1) (blk 1 4 c))
      ⊢ iprop(((accs pt c 4 ∗ gs pt c 4) -∗ WP c k Q) -∗ WP c (gSt c 0 <| gSt c 1 k) Q) := by
  unfold gSt accs gs
  iintro ⟨⟨A0, A1⟩, G0, G1⟩ Hk
  iapply (wp_gStore pt c (off8_eq c 0)) $$ [A0 G0]
  · isplitl [A0] <;> iassumption
  iintro ⟨A0, G0⟩
  iapply (wp_gStore pt c (off8_eq c 1)) $$ [A1 G1]
  · isplitl [A1] <;> iassumption
  iintro ⟨A1, G1⟩
  iapply Hk
  isplitl [A0 A1]; · isplitl [A0] <;> iassumption
  isplitl [G0] <;> iassumption

/-- What the communication starts from. -/
def commPre : sProp 𝕄 := iprop((kp c 0 ∗ kp c 1 ∗ kp c 2 ∗ kp c 3 ∗ kp c 4 ∗ kp c 5 ∗ kp c 6 ∗ kp c 7) ∗ accs pt c 0 ∗ sbs c
  ∗ (SR c 0 ∗ SR c 1 ∗ SR c 2 ∗ SR c 3) ∗ (GR c 0 ∗ GR c 1 ∗ GR c 2 ∗ GR c 3) ∗ (anyOn c (gM 0) (blk 0 4 c) ∗ anyOn c (gM 1) (blk 1 4 c)) ∗ owesX c (OX 0 c))
/-- What it ends with. -/
def commPost : sProp 𝕄 := iprop((fp c 0 ∗ fp c 1 ∗ fp c 2 ∗ fp c 3 ∗ fp c 4 ∗ fp c 5 ∗ fp c 6 ∗ fp c 7) ∗ accs pt c 4 ∗ sbs c
  ∗ (TR c 0 ∗ TR c 1 ∗ TR c 2 ∗ TR c 3) ∗ gs pt c 0 ∗ owesX c (OX 16 c))

/-- The whole exchange: every device ends with every reduced row. -/
theorem wp_comm {Q : PUnit → sProp 𝕄} {k : Pg F} :
    iprop(ctx pt K ∗ commPre pt c) ⊢ iprop((commPost pt c -∗ WP c k Q) -∗ WP c (comm c k) Q) := by
  unfold comm commPre commPost
  iintro ⟨#Hc, ⟨K0, K1, K2, K3, K4, K5, K6, K7⟩, A, B, ⟨S0, S1, S2, S3⟩, ⟨G0, G1, G2, G3⟩, G, HO⟩ Hk
  iapply (wp_rsRound pt K c (l := 0) (rs0_ok c) (n := 0) (n' := 2) rfl rfl) $$ [K0 A B S0 HO]
  · isplitr; · iexact Hc
    isplitl [K0]; · iexact K0
    isplitl [A]; · iexact A
    isplitl [B]; · iexact B
    isplitl [S0] <;> iassumption
  iintro ⟨K0, A, B, S0, HO⟩
  iapply (wp_rsRound pt K c (l := 1) (rs1_ok c) (n := 2) (n' := 4) rfl rfl) $$ [K1 A B S1 HO]
  · isplitr; · iexact Hc
    isplitl [K1]; · iexact K1
    isplitl [A]; · iexact A
    isplitl [B]; · iexact B
    isplitl [S1] <;> iassumption
  iintro ⟨K1, A, B, S1, HO⟩
  iapply (wp_rsRound pt K c (l := 2) (rs2_ok c) (n := 4) (n' := 6) rfl rfl) $$ [K2 A B S2 HO]
  · isplitr; · iexact Hc
    isplitl [K2]; · iexact K2
    isplitl [A]; · iexact A
    isplitl [B]; · iexact B
    isplitl [S2] <;> iassumption
  iintro ⟨K2, A, B, S2, HO⟩
  iapply (wp_rsRound pt K c (l := 3) (rs3_ok c) (n := 6) (n' := 8) rfl rfl) $$ [K3 A B S3 HO]
  · isplitr; · iexact Hc
    isplitl [K3]; · iexact K3
    isplitl [A]; · iexact A
    isplitl [B]; · iexact B
    isplitl [S3] <;> iassumption
  iintro ⟨K3, A, B, S3, HO⟩
  iapply (wp_gSts pt c) $$ [A G]
  · isplitl [A]; · iexact A
    icases G with ⟨G, G'⟩
    isplitl [G] <;> iassumption
  iintro ⟨A, G⟩
  iapply (wp_agRound pt K c (l := 3) (ag0_ok c) (n := 8) (n' := 10) rfl rfl) $$ [K4 G G3 HO]
  · isplitr; · iexact Hc
    isplitl [K4]; · iexact K4
    isplitl [G]; · iexact G
    isplitl [G3] <;> iassumption
  iintro ⟨K4, G, HO⟩
  iapply (wp_agRound pt K c (l := 2) (ag1_ok c) (n := 10) (n' := 12) rfl rfl) $$ [K5 G G2 HO]
  · isplitr; · iexact Hc
    isplitl [K5]; · iexact K5
    isplitl [G]; · iexact G
    isplitl [G2] <;> iassumption
  iintro ⟨K5, G, HO⟩
  iapply (wp_agRound pt K c (l := 1) (ag2_ok c) (n := 12) (n' := 14) rfl rfl) $$ [K6 G G1 HO]
  · isplitr; · iexact Hc
    isplitl [K6]; · iexact K6
    isplitl [G]; · iexact G
    isplitl [G1] <;> iassumption
  iintro ⟨K6, G, HO⟩
  iapply (wp_agRound pt K c (l := 0) (ag3_ok c) (n := 14) (n' := 16) rfl rfl) $$ [K7 G G0 HO]
  · isplitr; · iexact Hc
    isplitl [K7]; · iexact K7
    isplitl [G]; · iexact G
    isplitl [G0] <;> iassumption
  iintro ⟨K7, G, HO⟩
  iapply Hk
  isplitl [K0 K1 K2 K3 K4 K5 K6 K7]
  · isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  isplitl [A]; · iexact A
  isplitl [B]; · iexact B
  isplitl [S0 S1 S2 S3]
  · isplitl [S0]; · iexact S0
    isplitl [S1]; · iexact S1
    isplitl [S2] <;> iassumption
  isplitl [G]; · iexact G
  iexact HO

end Cert.KernelIdeal.Pf

end
-- ==== Proof.Store.lean ====
module

public import proofs.«01_k».proof.Proof.Round

@[expose] public section

set_option maxRecDepth 8000

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-! ## What the arguments hold, and the parts computed of them -/

/-- A device's arguments. -/
structure Args (F : FTy → Type) [FloatOps F] where
  x : S2x512x768.Idx → Elt F .bf16
  wq : S768x512.Idx → Elt F .bf16
  k : S2x512x8x64.Idx → Elt F .bf16
  v : S2x512x8x64.Idx → Elt F .bf16
  wo : S512x768.Idx → Elt F .bf16

abbrev xR (b : Fin 2) : Rect S2x512x768 := Rect.unit (s := S2x512x768) ![b.val, 0, 0] S1x512x768.size (x_inb b)
abbrev kvR (b : Fin 2) (h : Fin 8) : Rect S2x512x8x64 := Rect.unit (s := S2x512x8x64) ![b.val, 0, h.val, 0] S1x512x1x64.size (kv_inb b h)
abbrev wqR : Rect S768x512 := Rect.unit (s := S768x512) ![0, 0] S768x512.size inb_S768x512_S768x512_0_0
abbrev woR : Rect S512x768 := Rect.unit (s := S512x768) ![0, 0] S512x768.size inb_S512x768_S512x768_0_0

/-- One head's slice of keys or values. -/
def kvS (X : S2x512x8x64.Idx → Elt F .bf16) (b : Fin 2) (h : Fin 8) : Vec F S1x512x1x64 .bf16 := fun j => X ((kvR b h).emb j)
/-- One batch's queries. -/
def qS (a : Args F) (b : Fin 2) : FVec F S512x512 .bf16 := qV (fun j => a.wq (wqR.emb j)) (fun j => a.x ((xR b).emb j))
/-- A device's part of the output. -/
def part (a : Args F) (b : Fin 2) : FVec F S512x768 .f32 :=
  partV (fun j => a.wo (woR.emb j)) (qS a b) (kvS a.k b 0) (kvS a.v b 0) (kvS a.k b 1) (kvS a.v b 1) (kvS a.k b 2) (kvS a.v b 2)
    (kvS a.k b 3) (kvS a.v b 3) (kvS a.k b 4) (kvS a.v b 4) (kvS a.k b 5) (kvS a.v b 5) (kvS a.k b 6) (kvS a.v b 6) (kvS a.k b 7) (kvS a.v b 7)

/-- Reading a head's keys and values. -/
theorem wp_kvLoad {Q : PUnit → sProp 𝕄} {b : Fin 2} {h : Fin 8} {X Y : S2x512x8x64.Idx → Elt F .bf16}
    {k : Vec F S1x512x1x64 .bf16 → Vec F S1x512x1x64 .bf16 → Pg F} :
    iprop(ownsOn c kM Finset.univ X ∗ ownsOn c vM Finset.univ Y)
      ⊢ iprop(((ownsOn c kM Finset.univ X ∗ ownsOn c vM Finset.univ Y) -∗ WP c (k (kvS X b h) (kvS Y b h)) Q) -∗ WP c (kvLoad b h k) Q) := by
  unfold kvLoad
  iintro ⟨H1, H2⟩ Hk
  iapply (wp_loadOn (m := kM) (Finset.subset_univ _)) $$ H1
  iintro H1
  iapply (wp_loadOn (m := vM) (Finset.subset_univ _)) $$ H2
  iintro H2
  iapply Hk
  isplitl [H1] <;> iassumption

/-! ## Filling the accumulators -/

/-- The rows of one batch the blocks of a list go to. -/
def rowsOf (sd b : Fin 2) (l : List (Fin 16)) : Finset (T 16).Idx := Finset.univ.filter fun x => (x 1).val = b.val ∧ own sd (x 0) ∈ l

theorem rowsOf_cons (sd b : Fin 2) (q : Fin 16) (l : List (Fin 16)) :
    rowsOf sd b (q :: l) = (Rect.unit (s := T 16) ![perm sd q, b.val, 0, 0] S1x1x32x384.size (perm_inb sd q b)).set ∪ rowsOf sd b l := by
  ext x
  rw [Finset.mem_union, Rect.mem_set_unit]
  unfold rowsOf
  simp only [Finset.mem_filter, Finset.mem_univ, _root_.true_and, List.mem_cons]
  have ho : own sd (x 0) = q ↔ perm sd q = (x 0).val :=
    (show ∀ (sd : Fin 2) (q p : Fin 16), own sd p = q ↔ perm sd q = p.val by decide +kernel) sd q (x 0)
  constructor
  · rintro ⟨h1, h2 | h2⟩
    · left
      intro a
      match a with
      | ⟨0, _⟩ => exact ⟨(ho.mp h2).le, (ho.mp h2) ▸ Nat.lt_succ_self _⟩
      | ⟨1, _⟩ => exact ⟨h1.ge, h1 ▸ Nat.lt_succ_self _⟩
      | ⟨2, _⟩ => exact ⟨Nat.zero_le _, by simpa using (x 2).isLt⟩
      | ⟨3, _⟩ => exact ⟨Nat.zero_le _, by simpa using (x 3).isLt⟩
    · exact Or.inr ⟨h1, h2⟩
  · rintro (h | h)
    · have h0 : perm sd q ≤ (x 0).val ∧ (x 0).val < perm sd q + 1 := h 0
      have h1 : b.val ≤ (x 1).val ∧ (x 1).val < b.val + 1 := h 1
      exact ⟨by omega, Or.inl (ho.mpr (by omega))⟩
    · exact ⟨h.1, Or.inr h.2⟩

theorem piece_eq (pt : Parts F) (sd b : Fin 2) (q : Fin 16) (j : S1x1x32x384.Idx) :
    pieceV (pt c b) sd q j = ACC0 pt sd c ((Rect.unit (s := T 16) ![perm sd q, b.val, 0, 0] S1x1x32x384.size (perm_inb sd q b)).emb j) := by
  have e : ∀ a, (((Rect.unit (s := T 16) ![perm sd q, b.val, 0, 0] S1x1x32x384.size (perm_inb sd q b)).emb j) a).val
      = (![perm sd q, b.val, 0, 0] : Fin 4 → ℕ) a + (j a).val := fun a => by rw [Rect.emb_apply]; simp
  have j0 : (j 0).val = 0 := by have : (j 0).val < 1 := (j 0).isLt; omega
  have j1 : (j 1).val = 0 := by have : (j 1).val < 1 := (j 1).isLt; omega
  have e0 := (e 0).trans (congrArg (perm sd q + ·) j0)
  have e1 := (e 1).trans (congrArg (b.val + ·) j1)
  have e2 := (e 2).trans (Nat.zero_add _)
  have e3 := (e 3).trans (Nat.zero_add _)
  generalize (Rect.unit (s := T 16) ![perm sd q, b.val, 0, 0] S1x1x32x384.size (perm_inb sd q b)).emb j = x at e0 e1 e2 e3
  unfold ACC0
  have h1 : x 1 = b := Fin.ext e1
  have h0 : own sd (x 0) = q := (show ∀ (sd : Fin 2) (q p : Fin 16), p.val = perm sd q → own sd p = q by decide +kernel) sd q (x 0) e0
  rw [h1, h0]
  congr 1
  funext a
  match a with
  | ⟨0, _⟩ => exact Fin.ext j0
  | ⟨1, _⟩ => exact Fin.ext j1
  | ⟨2, _⟩ => exact Fin.ext e2.symm
  | ⟨3, _⟩ => exact Fin.ext e3.symm

/-- Storing the pieces of one batch fills that batch's rows. -/
theorem wp_aStores {Q : PUnit → sProp 𝕄} {k : Pg F} (pt : Parts F) (b : Fin 2) (l : List (Fin 16)) : ∀ (I₀ I₁ : Finset (T 16).Idx),
    iprop(knows c (accM 0) I₀ (ACC0 pt 0 c) ∗ knows c (accM 1) I₁ (ACC0 pt 1 c))
      ⊢ iprop(((knows c (accM 0) (I₀ ∪ rowsOf 0 b l) (ACC0 pt 0 c) ∗ knows c (accM 1) (I₁ ∪ rowsOf 1 b l) (ACC0 pt 1 c)) -∗ WP c k Q)
        -∗ WP c (aStores (l.flatMap fun q : Fin 16 =>
          [(⟨accM 0, ![perm 0 q, b.val, 0, 0], perm_inb 0 q b, pieceV (pt c b) 0 q⟩ : ASt F), ⟨accM 1, ![perm 1 q, b.val, 0, 0], perm_inb 1 q b, pieceV (pt c b) 1 q⟩]) k) Q) := by
  induction l with
  | nil =>
    intro I₀ I₁
    iintro ⟨H0, H1⟩ Hk
    iapply Hk
    isplitl [H0]
    · iapply (knows_mono (Finset.union_subset (Finset.Subset.refl _) (by intro x hx; simp [rowsOf] at hx))); iexact H0
    · iapply (knows_mono (Finset.union_subset (Finset.Subset.refl _) (by intro x hx; simp [rowsOf] at hx))); iexact H1
  | cons q l ih =>
    intro I₀ I₁
    rw [List.flatMap_cons]
    show _ ⊢ iprop(_ -∗ WP c (aStores (_ :: _ :: _) k) Q)
    unfold aStores aStores
    iintro ⟨H0, H1⟩ Hk
    iapply wp_loadKn $$ H0
    iintro H0
    iapply (wp_storeKn (piece_eq c pt 0 b q)) $$ H0
    iintro H0
    iapply wp_loadKn $$ H1
    iintro H1
    iapply (wp_storeKn (piece_eq c pt 1 b q)) $$ H1
    iintro H1
    iapply (ih _ _) $$ [H0 H1]
    · isplitl [H0] <;> iassumption
    rw [rowsOf_cons, rowsOf_cons, ← Finset.union_assoc, ← Finset.union_assoc]
    iexact Hk

/-! ## The output -/

/-- One element of the output: of a half of the columns, a block of positions, a batch, a position and a column of these. -/
def OUTat (pt : Parts F) (sd : Fin 2) (q : Fin 16) (b : Fin 2) (i : Fin 32) (j : Fin 384) : Elt F .f32 :=
  FloatOps.extf .f32 bitsLt_bf16_f32 (GG pt sd (ix4 (⟨perm sd q, perm_lt sd q⟩ : Fin 16) b i j))

/-- The output: every reduced row where its block of positions and half of the columns go. -/
def OUT (pt : Parts F) (x : S2x512x768.Idx) : Elt F .f32 :=
  OUTat pt ⟨(x 2).val / 384, Nat.div_lt_of_lt_mul (x 2).isLt⟩ ⟨(x 1).val / 32, Nat.div_lt_of_lt_mul (x 1).isLt⟩ (x 0)
    ⟨(x 1).val % 32, Nat.mod_lt _ (by decide)⟩ ⟨(x 2).val % 384, Nat.mod_lt _ (by decide)⟩

abbrev outR (sd : Fin 2) (q : Fin 16) : Rect S2x512x768 := Rect.unit (s := S2x512x768) ![0, 32 * q.val, 384 * sd.val] S2x32x384.size (out_inb sd q)

theorem shapeCast_drop {α : Type} (v : S1x2x32x384.Idx → α) (j : S2x32x384.Idx) :
    shapeCast S2x32x384 v shapeCasts_S1x2x32x384_S2x32x384 j = v (ix4 (0 : Fin 1) (j 0 : Fin 2) (j 1 : Fin 32) (j 2 : Fin 384)) := by
  refine (shapeCast_dropUnit_apply ![2, 32, 384] v shapeCasts_S1x2x32x384_S2x32x384 j).trans (congrArg v (funext fun a => ?_))
  match a with
  | ⟨0, _⟩ => rfl
  | ⟨1, _⟩ => rfl
  | ⟨2, _⟩ => rfl
  | ⟨3, _⟩ => rfl

theorem out_eq (pt : Parts F) (sd : Fin 2) (q : Fin 16) (j : S2x32x384.Idx) :
    outv (fun j => GG pt sd ((R4 16 1 ![perm sd q, 0, 0, 0] (perm_inb' sd q)).emb j)) j = OUT pt ((outR sd q).emb j) := by
  have e : ∀ a, (((outR sd q).emb j) a).val = (![0, 32 * q.val, 384 * sd.val] : Fin 3 → ℕ) a + (j a).val := fun a => by rw [Rect.emb_apply]; simp
  have e0 := (e 0).trans (Nat.zero_add _)
  have e1 : (((outR sd q).emb j) 1).val = 32 * q.val + (j 1).val := e 1
  have e2 : (((outR sd q).emb j) 2).val = 384 * sd.val + (j 2).val := e 2
  have j1 : (j 1).val < 32 := (j 1).isLt
  have j2 : (j 2).val < 384 := (j 2).isLt
  generalize (outR sd q).emb j = x at e0 e1 e2
  unfold OUT
  refine (congrArg (FloatOps.extf .f32 bitsLt_bf16_f32) (shapeCast_drop _ j)).trans ?_
  have hs : (⟨(x 2).val / 384, Nat.div_lt_of_lt_mul (x 2).isLt⟩ : Fin 2) = sd := Fin.ext (by show (x 2).val / 384 = _; omega)
  have hq : (⟨(x 1).val / 32, Nat.div_lt_of_lt_mul (x 1).isLt⟩ : Fin 16) = q := Fin.ext (by show (x 1).val / 32 = _; omega)
  rw [hs, hq]
  unfold OUTat
  refine congrArg (fun y => FloatOps.extf .f32 bitsLt_bf16_f32 (GG pt sd y)) ?_
  have r := R4_emb (hin := perm_inb' sd q) (ix4 (0 : Fin 1) (j 0 : Fin 2) (j 1 : Fin 32) (j 2 : Fin 384))
  funext a
  match a with
  | ⟨0, _⟩ => exact Fin.ext r.1
  | ⟨1, _⟩ => exact Fin.ext (r.2.1.trans e0.symm)
  | ⟨2, _⟩ => exact Fin.ext (r.2.2.1.trans (by show (j 1).val = (x 1).val % 32; omega))
  | ⟨3, _⟩ => exact Fin.ext (r.2.2.2.trans (by show (j 2).val = (x 2).val % 384; omega))

/-- The elements of the output the blocks of a list are. -/
def outOf (l : List (Fin 16)) : Finset S2x512x768.Idx := Finset.univ.filter fun x => ∃ q ∈ l, (x 1).val / 32 = q.val

theorem outOf_cons (q : Fin 16) (l : List (Fin 16)) : outOf (q :: l) ⊆ (outR 0 q).set ∪ (outR 1 q).set ∪ outOf l := by
  intro x hx
  unfold outOf at hx
  simp only [Finset.mem_filter, Finset.mem_univ, _root_.true_and, List.mem_cons] at hx
  obtain ⟨q', rfl | h, hq⟩ := hx
  · refine Finset.mem_union_left _ (Finset.mem_union.mpr ?_)
    have h0 : (x 0).val < 2 := (x 0).isLt
    have h2 : (x 2).val < 768 := (x 2).isLt
    rw [Rect.mem_set_unit, Rect.mem_set_unit]
    by_cases hc : (x 2).val < 384
    · left
      intro a
      match a with
      | ⟨0, _⟩ => exact ⟨Nat.zero_le _, by simpa using h0⟩
      | ⟨1, _⟩ => exact ⟨by show 32 * q'.val ≤ (x 1).val; omega, by show (x 1).val < 32 * q'.val + 32; omega⟩
      | ⟨2, _⟩ => exact ⟨Nat.zero_le _, by show (x 2).val < 384 * 0 + 384; omega⟩
    · right
      intro a
      match a with
      | ⟨0, _⟩ => exact ⟨Nat.zero_le _, by simpa using h0⟩
      | ⟨1, _⟩ => exact ⟨by show 32 * q'.val ≤ (x 1).val; omega, by show (x 1).val < 32 * q'.val + 32; omega⟩
      | ⟨2, _⟩ => exact ⟨by show 384 * 1 ≤ (x 2).val; omega, by show (x 2).val < 384 * 1 + 384; omega⟩
  · refine Finset.mem_union_right _ ?_
    unfold outOf
    simp only [Finset.mem_filter, Finset.mem_univ, _root_.true_and]
    exact ⟨q', h, hq⟩

/-- Storing the blocks fills the output. -/
theorem wp_oStores {Q : PUnit → sProp 𝕄} {k : Pg F} (pt : Parts F) (l : List (Fin 16)) : ∀ I : Finset S2x512x768.Idx,
    iprop(ownsOn c (gM 0) Finset.univ (GG pt 0) ∗ ownsOn c (gM 1) Finset.univ (GG pt 1) ∗ knows c oM I (OUT pt))
      ⊢ iprop(((ownsOn c (gM 0) Finset.univ (GG pt 0) ∗ ownsOn c (gM 1) Finset.univ (GG pt 1) ∗ knows c oM (I ∪ outOf l) (OUT pt)) -∗ WP c k Q)
        -∗ WP c (oStores (l.flatMap fun q : Fin 16 =>
          [(⟨gM 0, ![perm 0 q, 0, 0, 0], perm_inb' 0 q, ![0, 32 * q.val, 384 * (0 : Fin 2).val], out_inb 0 q⟩ : OSt), ⟨gM 1, ![perm 1 q, 0, 0, 0], perm_inb' 1 q, ![0, 32 * q.val, 384 * (1 : Fin 2).val], out_inb 1 q⟩]) k) Q) := by
  induction l with
  | nil =>
    intro I
    iintro ⟨H0, H1, H⟩ Hk
    iapply Hk
    isplitl [H0]; · iexact H0
    isplitl [H1]; · iexact H1
    iapply (knows_mono (Finset.union_subset (Finset.Subset.refl _) (by intro x hx; simp [outOf] at hx))); iexact H
  | cons q l ih =>
    intro I
    rw [List.flatMap_cons]
    show _ ⊢ iprop(_ -∗ WP c (oStores (_ :: _ :: _) k) Q)
    unfold oStores oStores
    iintro ⟨H0, H1, H⟩ Hk
    iapply (wp_loadOn (Finset.subset_univ _)) $$ H0
    iintro H0
    iapply wp_loadKn $$ H
    iintro H
    iapply (wp_storeKn (out_eq pt 0 q)) $$ H
    iintro H
    iapply (wp_loadOn (Finset.subset_univ _)) $$ H1
    iintro H1
    iapply wp_loadKn $$ H
    iintro H
    iapply (wp_storeKn (out_eq pt 1 q)) $$ H
    iintro H
    iapply (ih _) $$ [H0 H1 H]
    · isplitl [H0]; · iexact H0
      isplitl [H1] <;> iassumption
    iintro ⟨H0, H1, H⟩
    iapply Hk
    isplitl [H0]; · iexact H0
    isplitl [H1]; · iexact H1
    iapply (knows_mono (I := I ∪ (outR 0 q).set ∪ (outR 1 q).set ∪ outOf l) ?_)
    · rw [Finset.union_assoc, Finset.union_assoc, ← Finset.union_assoc (outR 0 q).set]
      exact Finset.union_subset_union (Finset.Subset.refl _) (outOf_cons q l)
    iexact H

end Cert.KernelIdeal.Pf

end
-- ==== Proof.Run.lean ====
module

public import proofs.«01_k».proof.Proof.Store

@[expose] public section

set_option maxRecDepth 8000

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-! ## One batch -/

/-- The blocks of positions, in order. -/
abbrev LQ : List (Fin 16) := [0, 1, 2, 3, 4, 5, 6, 7, 8, 9, 10, 11, 12, 13, 14, 15]
theorem mem_LQ : ∀ q : Fin 16, q ∈ LQ := by decide

theorem wp_pieces {Q : PUnit → sProp 𝕄} {k : Pg F} (pt : Parts F) (b : Fin 2) {v : FVec F S512x768 .f32} (hv : v = pt c b) (I₀ I₁ : Finset (T 16).Idx) :
    iprop(knows c (accM 0) I₀ (ACC0 pt 0 c) ∗ knows c (accM 1) I₁ (ACC0 pt 1 c))
      ⊢ iprop(((knows c (accM 0) (I₀ ∪ rowsOf 0 b LQ) (ACC0 pt 0 c) ∗ knows c (accM 1) (I₁ ∪ rowsOf 1 b LQ) (ACC0 pt 1 c)) -∗ WP c k Q)
        -∗ WP c (aStores (pieces b v) k) Q) := by
  subst hv
  exact wp_aStores c pt b LQ I₀ I₁

/-- One batch fills its rows of the accumulators with the device's part. -/
theorem wp_batch {Q : PUnit → sProp 𝕄} {k : Pg F} (pt : Parts F) (a : Args F) (b : Fin 2) (h : pt c b = part a b) (I₀ I₁ : Finset (T 16).Idx) :
    iprop(ownsOn c kM Finset.univ a.k ∗ ownsOn c vM Finset.univ a.v ∗ knows c (accM 0) I₀ (ACC0 pt 0 c) ∗ knows c (accM 1) I₁ (ACC0 pt 1 c))
      ⊢ iprop(((ownsOn c kM Finset.univ a.k ∗ ownsOn c vM Finset.univ a.v ∗ knows c (accM 0) (I₀ ∪ rowsOf 0 b LQ) (ACC0 pt 0 c)
            ∗ knows c (accM 1) (I₁ ∪ rowsOf 1 b LQ) (ACC0 pt 1 c)) -∗ WP c k Q)
        -∗ WP c (batch b (fun j => a.wo (woR.emb j)) (qS a b) k) Q) := by
  unfold batch
  iintro ⟨H1, H2, A0, A1⟩ Hk
  iapply (wp_kvLoad c (b := b) (h := 0) (X := a.k) (Y := a.v)) $$ [H1 H2]
  · isplitl [H1] <;> iassumption
  iintro ⟨H1, H2⟩
  iapply (wp_kvLoad c (b := b) (h := 1) (X := a.k) (Y := a.v)) $$ [H1 H2]
  · isplitl [H1] <;> iassumption
  iintro ⟨H1, H2⟩
  iapply (wp_kvLoad c (b := b) (h := 2) (X := a.k) (Y := a.v)) $$ [H1 H2]
  · isplitl [H1] <;> iassumption
  iintro ⟨H1, H2⟩
  iapply (wp_kvLoad c (b := b) (h := 3) (X := a.k) (Y := a.v)) $$ [H1 H2]
  · isplitl [H1] <;> iassumption
  iintro ⟨H1, H2⟩
  iapply (wp_kvLoad c (b := b) (h := 4) (X := a.k) (Y := a.v)) $$ [H1 H2]
  · isplitl [H1] <;> iassumption
  iintro ⟨H1, H2⟩
  iapply (wp_kvLoad c (b := b) (h := 5) (X := a.k) (Y := a.v)) $$ [H1 H2]
  · isplitl [H1] <;> iassumption
  iintro ⟨H1, H2⟩
  iapply (wp_kvLoad c (b := b) (h := 6) (X := a.k) (Y := a.v)) $$ [H1 H2]
  · isplitl [H1] <;> iassumption
  iintro ⟨H1, H2⟩
  iapply (wp_kvLoad c (b := b) (h := 7) (X := a.k) (Y := a.v)) $$ [H1 H2]
  · isplitl [H1] <;> iassumption
  iintro ⟨H1, H2⟩
  iapply (wp_pieces c pt b (by exact h.symm) I₀ I₁) $$ [A0 A1]
  · isplitl [A0] <;> iassumption
  iintro ⟨A0, A1⟩
  iapply Hk
  isplitl [H1]; · iexact H1
  isplitl [H2]; · iexact H2
  isplitl [A0] <;> iassumption

/-! ## The entry barrier -/

/-- What a device hands over at the barrier for one half and level: the places its partner sends to. -/
def hand (sd : Fin 2) (l : Fin 4) : sProp 𝕄 :=
  iprop(anyOn (F := F) c (stM sd) (stR l) ∗ anyOn c (gM sd) (blk sd (l.val + 1) (pr sd l c)))

theorem pr_lev (sd : Fin 2) (j : Fin 4) (c : Dev nD) : pr sd (lev sd j) c = nb j c := by unfold pr; rw [bt_lev]

theorem hand_dst (sd : Fin 2) (j : Fin 4) : hand (F := F) c sd (lev sd j) ⊢ dst sd (lev sd j) (nb j c) := by
  unfold hand dst
  rw [← pr_lev sd j c, pr_pr]

theorem hand_pay (j : Fin 4) : iprop(hand (F := F) c 0 (lev 0 j) ∗ hand c 1 (lev 1 j)) ⊢ barPay (nb j c) j := by
  unfold barPay
  iintro ⟨H0, H1⟩
  isplitl [H0]
  · iapply (hand_dst c 0 j); iexact H0
  · iapply (hand_dst c 1 j); iexact H1

/-- What a device makes its barrier with: its position, the four tokens it pays, the four units to come. -/
def barKit : sProp 𝕄 :=
  iprop(atPos ER (barCell c) 0 ∅ 0 ∗ (dutyTok ER (barCell (nb 0 c)) 0 (0 : Fin 4) ∗ dutyTok ER (barCell (nb 1 c)) 0 (1 : Fin 4)
      ∗ dutyTok ER (barCell (nb 2 c)) 0 (2 : Fin 4) ∗ dutyTok ER (barCell (nb 3 c)) 0 (3 : Fin 4))
    ∗ cred (tallyAt (barCell c) () 4))

variable (pt : Parts F) (K : Dev nD × CI → ℕ)

theorem amount_bar (d : Dev nD) (j : Fin 4) : (Rd pt).amount (barCell d) 0 j = 1 := rfl

/-- One signal of the barrier. -/
theorem wp_sig {Q : PUnit → sProp 𝕄} {k : Pg F} (j : Fin 4) {d : Dev nD} (hd : d = nb j c) {O : CellTallies nD τ sig Unit} {n : ℕ} (hn : n = j.val + 1) :
    iprop(ctx pt K ∗ dutyTok ER (barCell (nb j c)) 0 j ∗ (hand c 0 (lev 0 j) ∗ hand c 1 (lev 1 j)) ∗ owesX c (O + OB j.val c))
      ⊢ iprop((owesX c (O + OB n c) -∗ WP c k Q)
        -∗ WP c (.op (.semSignal ((d, .tc) : Thread nD τ) barS (1#32 : BitVec 32).toInt) fun _ => k) Q) := by
  subst hd hn
  unfold owesX
  iintro ⟨#Hc, Ht, Hh, %W, HO⟩ Hk
  have hO : O + OB j.val c = O + OB (j.val + 1) c + tallyAt (barCell (nb j c)) () 1 := by rw [OB_peel, add_assoc]
  have hp : iprop(hand (F := F) c 0 (lev 0 j) ∗ hand c 1 (lev 1 j)) ⊢ (Rd pt).payload (barCell (nb j c)) 0 j := hand_pay c j
  iapply (Rounds.wp_signal Variants.none ER (Rd pt) (c : Thread nD τ) none (dst := (nb j c : Thread nD τ)) (κ := K (nb j c, none))
      (d := j) (by rw [duties_bar]; exact Finset.mem_univ _) ((amount_bar pt (nb j c) j).trans (by decide)) () (O + OB (j.val + 1) c) hO (W := W)) $$ [Ht Hh HO]
  · isplitr; · iapply (ctx_inv pt K (nb j c, none)); iexact Hc
    isplitl [HO]; · iexact HO
    isplitl [Ht]; · iexact Ht
    isplitl [Hh]; · iapply hp; iexact Hh
    iapply (ctx_reached pt K (nb j c, none)); iexact Hc
  iintro HO
  iapply Hk
  iexists _; iexact HO

/-- The entry barrier: a device hands its places over and is handed its partners'. -/
theorem wp_barrier {Q : PUnit → sProp 𝕄} {k : Pg F} :
    iprop(ctx pt K ∗ barKit c ∗ ((hand c 0 0 ∗ hand c 1 1) ∗ (hand c 0 2 ∗ hand c 1 3) ∗ (hand c 0 1 ∗ hand c 1 0) ∗ (hand c 0 3 ∗ hand c 1 2))
        ∗ owesX c (O₀ c))
      ⊢ iprop(((semVal (barCell c) 0 ∗ (barPay c 0 ∗ barPay c 1 ∗ barPay c 2 ∗ barPay c 3) ∗ owesX c (OX 0 c)) -∗ WP c k Q)
        -∗ WP c (barrier c k) Q) := by
  unfold barrier barKit O₀
  iintro ⟨#Hc, ⟨Hat, ⟨T0, T1, T2, T3⟩, Hcr⟩, ⟨H0, H1, H2, H3⟩, HO⟩ Hk
  iapply (wp_sig c pt K 0 (Fin.ext (dev_bar c).1) (O := OX 0 c) (n := 1) rfl) $$ [T0 H0 HO]
  · isplitr; · iexact Hc
    isplitl [T0]; · iexact T0
    isplitl [H0]; · iexact H0
    iexact HO
  iintro HO
  iapply (wp_sig c pt K 1 (Fin.ext (dev_bar c).2.1) (O := OX 0 c) (n := 2) rfl) $$ [T1 H1 HO]
  · isplitr; · iexact Hc
    isplitl [T1]; · iexact T1
    isplitl [H1]; · iexact H1
    iexact HO
  iintro HO
  iapply (wp_sig c pt K 2 (Fin.ext (dev_bar c).2.2.1) (O := OX 0 c) (n := 3) rfl) $$ [T2 H2 HO]
  · isplitr; · iexact Hc
    isplitl [T2]; · iexact T2
    isplitl [H2]; · iexact H2
    iexact HO
  iintro HO
  iapply (wp_sig c pt K 3 (Fin.ext (dev_bar c).2.2.2) (O := OX 0 c) (n := 4) rfl) $$ [T3 H3 HO]
  · isplitr; · iexact Hc
    isplitl [T3]; · iexact T3
    isplitl [H3]; · iexact H3
    iexact HO
  iintro HO
  rw [OB_end, add_zero]
  unfold owesX
  icases HO with ⟨%W, HO⟩
  have hm : ctx pt K ⊢ MayWait (c : Thread nD τ) (.reg barS) () (OX 0 c) := BI.Entails.trans (ctx_lev pt K) (mayWait_bar (F := F) c)
  iapply (Rounds.wp_wait_rest_token Variants.none ER (Rd pt) (c : Thread nD τ) none (κ := K (c, none))
      (wpE_semWait_eq Variants.none (c : Thread nD τ) none Set.univ) (Set.mem_univ _) () (O := OX 0 c) (W := W) (R := 0) (m := 0) (T := ∅)
      (by rw [expect_bar]; decide)) $$ [Hcr HO Hat]
  · isplitr; · iapply (ctx_inv pt K (c, none)); iexact Hc
    isplitl [Hcr]; · iexact Hcr
    isplitl [HO]; · iexact HO
    isplitr; · iapply hm; iexact Hc
    iexact Hat
  iintro ⟨HO, Hat, -, Hp⟩
  ihave Hp := (Entails.of_eq (rest_bar pt c)) $$ Hp
  imod (Rounds.cell_close ER (Rd pt) (Set.mem_univ (K (c, none))) (fun h => h) (R := 0 + 1) (duties_later pt (barCell c))) $$ [Hat] with Hz
  · isplitr; · iapply (ctx_inv pt K (c, none)); iexact Hc
    iexact Hat
  iapply Hk
  isplitl [Hz]; · iexact Hz
  isplitl [Hp]; · iexact Hp
  iexists _; iexact HO

/-! ## Cutting and joining the buffers -/

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem st_cut (sd : Fin 2) : (anyOn c (stM sd) Finset.univ : sProp 𝕄)
    ⊢ iprop(anyOn c (stM sd) (stR 0) ∗ anyOn c (stM sd) (stR 1) ∗ anyOn c (stM sd) (stR 2) ∗ anyOn c (stM sd) (stR 3)) := by
  rw [← bigSep_fin4 (fun l => anyOn (F := F) c (stM sd) (stR l))]
  exact anyOn_biUnion Finset.univ stR (fun l _ l' _ h => stR_disj l l' h) stR_cover

theorem g_cut (sd : Fin 2) : (anyOn c (gM sd) Finset.univ : sProp 𝕄)
    ⊢ iprop(anyOn c (gM sd) (blk sd 4 c) ∗ anyOn c (gM sd) (blk sd 1 (pr sd 0 c)) ∗ anyOn c (gM sd) (blk sd 2 (pr sd 1 c))
      ∗ anyOn c (gM sd) (blk sd 3 (pr sd 2 c)) ∗ anyOn c (gM sd) (blk sd 4 (pr sd 3 c))) := by
  refine (anyOn_split (blk_cover sd c) (blk_disj₁ sd c)).trans (sep_mono_right ?_)
  refine BI.Entails.trans (anyOn_biUnion (c := c) (m := gM sd) Finset.univ (fun l : Fin 4 => blk sd (l.val + 1) (pr sd l c)) (fun l _ l' _ h => blk_disj₂ sd c l l' h) rfl) ?_
  rw [bigSep_fin4]
  exact BI.Entails.refl _

theorem anyOn_biUnion_join {s : Shape} {e : EltTy} {m : Memref sig .tc .vmem s e} {T : Type} [DecidableEq T] (S : Finset T) (I : T → Finset s.Idx)
    (h : ∀ t ∈ S, ∀ t' ∈ S, t ≠ t' → Disjoint (I t) (I t')) (hS : S.Nonempty) {J : Finset s.Idx} (hJ : J = S.biUnion I) :
    (bigSep S fun t => anyOn (F := F) c m (I t)) ⊢ anyOn c m J := by
  subst hJ
  induction hS using Finset.Nonempty.cons_induction with
  | singleton t => rw [bigSep_singleton, Finset.singleton_biUnion]
  | cons t S ht _ ih =>
    rw [Finset.cons_eq_insert] at h ⊢
    rw [bigSep_insert ht]
    exact (sep_mono_right (ih fun t₁ h₁ t₂ h₂ => h t₁ (Finset.mem_insert_of_mem h₁) t₂ (Finset.mem_insert_of_mem h₂))).trans
      (anyOn_join (Finset.biUnion_insert) ((Finset.disjoint_biUnion_right _ _ _).mpr fun t' ht' =>
        h t (Finset.mem_insert_self _ _) t' (Finset.mem_insert_of_mem ht') (fun e => ht (e ▸ ht'))))

theorem st_join (sd : Fin 2) : iprop(anyOn c (stM sd) (stR 0) ∗ anyOn c (stM sd) (stR 1) ∗ anyOn c (stM sd) (stR 2) ∗ anyOn c (stM sd) (stR 3))
    ⊢ (anyOn c (stM sd) Finset.univ : sProp 𝕄) := by
  rw [← bigSep_fin4 (fun l => anyOn (F := F) c (stM sd) (stR l))]
  exact anyOn_biUnion_join c Finset.univ stR (fun l _ l' _ h => stR_disj l l' h) ⟨0, Finset.mem_univ _⟩ stR_cover

theorem dst_eq (sd : Fin 2) (l : Fin 4) : dst (F := F) sd l c = iprop(anyOn (pr sd l c) (stM sd) (stR l) ∗ anyOn (pr sd l c) (gM sd) (blk sd (l.val + 1) c)) := rfl

/-- The barrier's payloads are the partners' places, level by level. -/
theorem pays : iprop(barPay (F := F) c 0 ∗ barPay c 1 ∗ barPay c 2 ∗ barPay c 3)
    ⊢ iprop((SR c 0 ∗ SR c 1 ∗ SR c 2 ∗ SR c 3) ∗ (GR c 0 ∗ GR c 1 ∗ GR c 2 ∗ GR c 3)) := by
  have e0 : barPay (F := F) c 0 = iprop(dst 0 0 c ∗ dst 1 1 c) := rfl
  have e1 : barPay (F := F) c 1 = iprop(dst 0 2 c ∗ dst 1 3 c) := rfl
  have e2 : barPay (F := F) c 2 = iprop(dst 0 1 c ∗ dst 1 0 c) := rfl
  have e3 : barPay (F := F) c 3 = iprop(dst 0 3 c ∗ dst 1 2 c) := rfl
  rw [e0, e1, e2, e3]
  unfold dst SR GR
  iintro ⟨⟨⟨a0, b0⟩, c1, d1⟩, ⟨⟨a2, b2⟩, c3, d3⟩, ⟨⟨a1, b1⟩, c0, d0⟩, ⟨a3, b3⟩, c2, d2⟩
  isplitl [a0 c0 a1 c1 a2 c2 a3 c3]
  · isplitl [a0 c0]; · isplitl [a0] <;> iassumption
    isplitl [a1 c1]; · isplitl [a1] <;> iassumption
    isplitl [a2 c2]; · isplitl [a2] <;> iassumption
    isplitl [a3] <;> iassumption
  · isplitl [b0 d0]; · isplitl [b0] <;> iassumption
    isplitl [b1 d1]; · isplitl [b1] <;> iassumption
    isplitl [b2 d2]; · isplitl [b2] <;> iassumption
    isplitl [b3] <;> iassumption

/-! ## The whole body -/

/-- The arguments a device holds. -/
def argsOn (a : Args F) : sProp 𝕄 :=
  iprop(ownsOn c xM Finset.univ a.x ∗ ownsOn c wqM Finset.univ a.wq ∗ ownsOn c kM Finset.univ a.k ∗ ownsOn c vM Finset.univ a.v ∗ ownsOn c woM Finset.univ a.wo)
/-- The scratch buffers. -/
def scr : sProp 𝕄 :=
  iprop(anyOn (F := F) c (accM 0) Finset.univ ∗ anyOn c (accM 1) Finset.univ ∗ anyOn c (sbM 0) Finset.univ ∗ anyOn c (sbM 1) Finset.univ
    ∗ anyOn c (stM 0) Finset.univ ∗ anyOn c (stM 1) Finset.univ ∗ anyOn c (gM 0) Finset.univ ∗ anyOn c (gM 1) Finset.univ)

theorem acc_all (sd : Fin 2) : knows c (accM sd) (∅ ∪ rowsOf sd 0 LQ ∪ rowsOf sd 1 LQ) (ACC0 pt sd c) ⊢ ownsOn c (accM sd) Finset.univ (ACC pt sd 0 c) := by
  refine knows_all fun x => ?_
  have h : (x 1).val < 2 := (x 1).isLt
  rw [Finset.empty_union, Finset.mem_union]
  unfold rowsOf
  simp only [Finset.mem_filter, Finset.mem_univ, _root_.true_and, mem_LQ, _root_.and_true]
  show (x 1).val = 0 ∨ (x 1).val = 1
  omega

theorem out_all : knows c oM (∅ ∪ outOf LQ) (OUT pt) ⊢ ownsOn c oM Finset.univ (OUT pt) := by
  refine knows_all fun x => ?_
  have h : (x 1).val < 512 := (x 1).isLt
  rw [Finset.empty_union]
  unfold outOf
  simp only [Finset.mem_filter, Finset.mem_univ, _root_.true_and]
  exact ⟨⟨(x 1).val / 32, by omega⟩, mem_LQ _, rfl⟩

theorem wp_oBlocks {Q : PUnit → sProp 𝕄} {k : Pg F} (I : Finset S2x512x768.Idx) :
    iprop(ownsOn c (gM 0) Finset.univ (GG pt 0) ∗ ownsOn c (gM 1) Finset.univ (GG pt 1) ∗ knows c oM I (OUT pt))
      ⊢ iprop(((ownsOn c (gM 0) Finset.univ (GG pt 0) ∗ ownsOn c (gM 1) Finset.univ (GG pt 1) ∗ knows c oM (I ∪ outOf LQ) (OUT pt)) -∗ WP c k Q)
        -∗ WP c (oStores blocks k) Q) := wp_oStores c pt LQ I

/-- What the body starts from, besides the cells' invariants. -/
def bodyIn (a : Args F) : sProp 𝕄 :=
  iprop(barKit c ∗ (bigSep Finset.univ fun ph => kp (F := F) c ph) ∗ scr c ∗ argsOn c a ∗ anyOn c oM Finset.univ ∗ owesX c (O₀ c))
/-- What it ends with: the arguments as they were, the output computed. -/
def bodyOut (a : Args F) : sProp 𝕄 :=
  iprop(semVal (barCell c) 0 ∗ (bigSep Finset.univ fun ph => fp (F := F) c ph) ∗ scr c ∗ argsOn c a ∗ ownsOn c oM Finset.univ (OUT pt) ∗ owesX c 0)

/-- The body computes the output. -/
theorem wp_body (a : Args F) (h : ∀ b, pt c b = part a b) {Q : PUnit → sProp 𝕄} :
    iprop(ctx pt K ∗ bodyIn c a) ⊢ iprop((bodyOut c pt a -∗ Q ⟨⟩) -∗ WP c body Q) := by
  unfold body bodyIn bodyOut argsOn scr
  rw [bigSep_fin8, bigSep_fin8]
  simp only [wp_deviceId]
  iintro ⟨#Hc, HB, HK, ⟨A0, A1, B0, B1, S0, S1, G0, G1⟩, ⟨X, WQ, KK, VV, WO⟩, O, HO⟩ Hk
  ihave S0 := (st_cut c 0) $$ S0
  ihave S1 := (st_cut c 1) $$ S1
  ihave G0 := (g_cut c 0) $$ G0
  ihave G1 := (g_cut c 1) $$ G1
  icases S0 with ⟨s00, s01, s02, s03⟩
  icases S1 with ⟨s10, s11, s12, s13⟩
  icases G0 with ⟨G0, g00, g01, g02, g03⟩
  icases G1 with ⟨G1, g10, g11, g12, g13⟩
  iapply (wp_barrier c pt K) $$ [HB s00 s01 s02 s03 s10 s11 s12 s13 g00 g01 g02 g03 g10 g11 g12 g13 HO]
  · isplitr; · iexact Hc
    isplitl [HB]; · iexact HB
    isplitr [HO]
    · unfold hand
      isplitl [s00 g00 s11 g11]
      · isplitl [s00 g00]
        · isplitl [s00]; · iexact s00
          iexact g00
        isplitl [s11]; · iexact s11
        iexact g11
      isplitl [s02 g02 s13 g13]
      · isplitl [s02 g02]
        · isplitl [s02]; · iexact s02
          iexact g02
        isplitl [s13]; · iexact s13
        iexact g13
      isplitl [s01 g01 s10 g10]
      · isplitl [s01 g01]
        · isplitl [s01]; · iexact s01
          iexact g01
        isplitl [s10]; · iexact s10
        iexact g10
      isplitl [s03 g03]
      · isplitl [s03]; · iexact s03
        iexact g03
      isplitl [s12]; · iexact s12
      iexact g12
    iexact HO
  iintro ⟨Hz, Hp, HO⟩
  ihave Hp := (pays c) $$ Hp
  icases Hp with ⟨HS, HG⟩
  iapply (wp_loadOn (m := wqM) (Finset.subset_univ _)) $$ WQ
  iintro WQ
  iapply (wp_loadOn (m := woM) (Finset.subset_univ _)) $$ WO
  iintro WO
  ihave A0 := (anyOn_knows (Y := ACC0 pt 0 c)) $$ A0
  ihave A1 := (anyOn_knows (Y := ACC0 pt 1 c)) $$ A1
  unfold xLoad
  iapply (wp_loadOn (m := xM) (Finset.subset_univ _)) $$ X
  iintro X
  iapply (wp_batch c pt a 0 (h 0) ∅ ∅) $$ [KK VV A0 A1]
  · isplitl [KK]; · iexact KK
    isplitl [VV]; · iexact VV
    isplitl [A0] <;> iassumption
  iintro ⟨KK, VV, A0, A1⟩
  iapply (wp_loadOn (m := xM) (Finset.subset_univ _)) $$ X
  iintro X
  iapply (wp_batch c pt a 1 (h 1) (∅ ∪ rowsOf 0 0 LQ) (∅ ∪ rowsOf 1 0 LQ)) $$ [KK VV A0 A1]
  · isplitl [KK]; · iexact KK
    isplitl [VV]; · iexact VV
    isplitl [A0] <;> iassumption
  iintro ⟨KK, VV, A0, A1⟩
  ihave A0 := (acc_all c pt 0) $$ A0
  ihave A1 := (acc_all c pt 1) $$ A1
  iapply (wp_comm pt K c) $$ [HK A0 A1 B0 B1 HS HG G0 G1 HO]
  · isplitr; · iexact Hc
    unfold commPre accs sbs
    isplitl [HK]; · iexact HK
    isplitl [A0 A1]; · isplitl [A0] <;> iassumption
    isplitl [B0 B1]; · isplitl [B0] <;> iassumption
    isplitl [HS]; · iexact HS
    isplitl [HG]; · iexact HG
    isplitl [G0 G1]; · isplitl [G0] <;> iassumption
    iexact HO
  unfold commPost accs sbs TR gs
  rw [blk_zero, blk_zero, OX_end]
  iintro ⟨HK, ⟨A0, A1⟩, ⟨B0, B1⟩, ⟨⟨s00, s10⟩, ⟨s01, s11⟩, ⟨s02, s12⟩, s03, s13⟩, ⟨G0, G1⟩, HO⟩
  ihave O := (anyOn_knows (Y := OUT pt)) $$ O
  iapply (wp_oBlocks c pt ∅) $$ [G0 G1 O]
  · isplitl [G0]; · iexact G0
    isplitl [G1] <;> iassumption
  iintro ⟨G0, G1, O⟩
  ihave O := (out_all c pt) $$ O
  dsimp only [WP]
  rw [wp_ret]
  imodintro
  iapply Hk
  isplitl [Hz]; · iexact Hz
  isplitl [HK]; · iexact HK
  isplitl [A0 A1 B0 B1 s00 s01 s02 s03 s10 s11 s12 s13 G0 G1]
  · isplitl [A0]; · iapply ownsOn_any; iexact A0
    isplitl [A1]; · iapply ownsOn_any; iexact A1
    isplitl [B0]; · iexact B0
    isplitl [B1]; · iexact B1
    isplitl [s00 s01 s02 s03]
    · iapply (st_join c 0)
      isplitl [s00]; · iexact s00
      isplitl [s01]; · iexact s01
      isplitl [s02] <;> iassumption
    isplitl [s10 s11 s12 s13]
    · iapply (st_join c 1)
      isplitl [s10]; · iexact s10
      isplitl [s11]; · iexact s11
      isplitl [s12] <;> iassumption
    isplitl [G0]; · iapply ownsOn_any; iexact G0
    iapply ownsOn_any; iexact G1
  isplitl [X WQ KK VV WO]
  · isplitl [X]; · iexact X
    isplitl [WQ]; · iexact WQ
    isplitl [KK]; · iexact KK
    isplitl [VV] <;> iassumption
  isplitl [O] <;> iassumption

end Cert.KernelIdeal.Pf

end
-- ==== Proof.Fund.lean ====
module

public import proofs.«01_k».proof.Proof.Run

@[expose] public section

set_option maxRecDepth 8000

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums over cells -/

theorem bigSep_CI (Φ : CI → sProp 𝕄) : bigSep Finset.univ Φ = iprop(Φ none ∗ bigSep Finset.univ fun k => Φ (some k)) := by
  rw [bigSep_univ_equiv (Equiv.optionEquivSumPUnit.{0, 0} (Fin 2 × Fin 8 × Fin 2)).symm Φ, bigSep_univ_sum]
  rw [bigSep_univ_of_subsingleton (I := PUnit) PUnit.unit]
  exact BI.Entails.antisymm BI.sep_comm BI.sep_comm

/-- A sum over the transfers' cells: the sending ones and the receiving ones. -/
theorem bigSep_ends (Φ : Fin 2 × Fin 8 × Fin 2 → sProp 𝕄) :
    bigSep Finset.univ Φ = iprop((bigSep Finset.univ fun t : Fin 8 × Fin 2 => Φ (0, t)) ∗ bigSep Finset.univ fun t : Fin 8 × Fin 2 => Φ (1, t)) := by
  rw [bigSep_univ_prod, bigSep_univ_two]

theorem kps_eq (c : Dev nD) : (bigSep Finset.univ fun ph => kp (F := F) c ph) = bigSep Finset.univ fun t : Fin 8 × Fin 2 => kit t.1 t.2 c := by
  rw [bigSep_univ_prod]
  exact bigSep_congr fun ph _ => by rw [bigSep_univ_two]; rfl
theorem fps_eq (c : Dev nD) : (bigSep Finset.univ fun ph => fp (F := F) c ph) = bigSep Finset.univ fun t : Fin 8 × Fin 2 => fin t.1 t.2 c := by
  rw [bigSep_univ_prod]
  exact bigSep_congr fun ph _ => by rw [bigSep_univ_two]; rfl

/-! ## The cells and the tokens -/

theorem csem_inj : Function.Injective csem := by
  intro a b h
  rcases a with _ | ⟨e, ph, sd⟩ <;> rcases b with _ | ⟨e', ph', sd'⟩
  · rfl
  · fin_cases e' <;> cases h
  · fin_cases e <;> cases h
  · have hS : ∀ ph sd ph' sd', semS ph sd = semS ph' sd' → ph = ph' ∧ sd = sd' := by decide
    fin_cases e <;> fin_cases e'
    · obtain ⟨rfl, rfl⟩ := hS _ _ _ _ (SemLoc.dma.inj h); rfl
    · exact absurd (SemLoc.dma.inj h) (semS_ne_semR _ _ _ _)
    · exact absurd (SemLoc.dma.inj h).symm (semS_ne_semR _ _ _ _)
    · obtain ⟨rfl, rfl⟩ := semR_inj _ _ _ _ (SemLoc.dma.inj h); rfl
theorem kcell_inj : Function.Injective (kcell : Dev nD × CI → GSem nD τ sig) := by
  rintro ⟨c, k⟩ ⟨c', k'⟩ h
  have h₁ : c = c' := by have := congrArg (fun g : GSem nD τ sig => g.1.1) h; exact this
  have h₂ : k = k' := csem_inj (congrArg Prod.snd h)
  subst h₁ h₂; rfl
def xCells : Finset (GSem nD τ sig) := Finset.univ.map ⟨kcell, kcell_inj⟩

/-- The tokens of a device's own cells: four of its barrier cell, one of each transfer's cell. -/
abbrev TI : Type := Fin 4 ⊕ (Fin 2 × Fin 8 × Fin 2)
def tokOf : Dev nD × TI → GSem nD τ sig × ℕ × Fin 4
  | (c, .inl j) => (barCell c, 0, j)
  | (c, .inr k) => (kcell (c, some k), 0, 0)
theorem tokOf_inj : Function.Injective tokOf := by
  rintro ⟨c, k⟩ ⟨c', k'⟩ h
  rcases k with j | k <;> rcases k' with j' | k'
  · have h₁ : (c, (none : CI)) = (c', none) := kcell_inj (congrArg Prod.fst h)
    have h₂ : j = j' := congrArg (fun x : GSem nD τ sig × ℕ × Fin 4 => x.2.2) h
    cases h₁; subst h₂; rfl
  · have h₁ : (c, (none : CI)) = (c', some k') := kcell_inj (congrArg Prod.fst h)
    cases h₁
  · have h₁ : (c, some k) = (c', (none : CI)) := kcell_inj (congrArg Prod.fst h)
    cases h₁
  · have h₁ : (c, some k) = (c', some k') := kcell_inj (congrArg Prod.fst h)
    cases h₁; rfl
def xToks : Finset (GSem nD τ sig × ℕ × Fin 4) := Finset.univ.map ⟨tokOf, tokOf_inj⟩

def toks (c : Dev nD) : sProp 𝕄 :=
  iprop((bigSep Finset.univ fun j : Fin 4 => dutyTok ER (barCell c) 0 j)
    ∗ (bigSep Finset.univ fun t : Fin 8 × Fin 2 => dutyTok ER (sendCell c t.1 t.2) 0 (0 : Fin 4))
    ∗ bigSep Finset.univ fun t : Fin 8 × Fin 2 => dutyTok ER (recvCell c t.1 t.2) 0 (0 : Fin 4))
/-- The tokens a device pays. -/
def payToks (c : Dev nD) : sProp 𝕄 :=
  iprop((bigSep Finset.univ fun j : Fin 4 => dutyTok ER (barCell (nb j c)) 0 j)
    ∗ (bigSep Finset.univ fun t : Fin 8 × Fin 2 => dutyTok ER (sendCell c t.1 t.2) 0 (0 : Fin 4))
    ∗ bigSep Finset.univ fun t : Fin 8 × Fin 2 => dutyTok ER (recvCell (pa t.1 t.2 c) t.1 t.2) 0 (0 : Fin 4))

/-- Sums over all devices of what each holds of its partners' are sums of what each holds of its own. -/
theorem bigSep_turn {I : Type} [Fintype I] (e : I → Dev nD → Dev nD) (he : ∀ i c, e i (e i c) = c) (Φ : I → Dev nD → sProp 𝕄) :
    (bigSep Finset.univ fun c => bigSep Finset.univ fun i => Φ i c) = bigSep Finset.univ fun c => bigSep Finset.univ fun i => Φ i (e i c) := by
  rw [bigSep_univ_comm (fun c i => Φ i c), bigSep_univ_comm (fun c i => Φ i (e i c))]
  exact bigSep_congr fun i _ => bigSep_univ_equiv ⟨e i, e i, he i, he i⟩ (Φ i)

theorem toks_around : (bigSep Finset.univ fun c : Dev nD => (toks c : sProp 𝕄)) = bigSep Finset.univ fun c : Dev nD => payToks c := by
  unfold toks payToks
  rw [bigSep_sep', bigSep_sep', bigSep_sep', bigSep_sep', bigSep_turn nb nb_nb fun j c => (dutyTok ER (barCell c) 0 j : sProp 𝕄),
    bigSep_turn (fun t : Fin 8 × Fin 2 => pa t.1 t.2) (fun t => pa_pa t.1 t.2) fun t c => (dutyTok ER (recvCell c t.1 t.2) 0 (0 : Fin 4) : sProp 𝕄)]

/-! ## The credits at launch -/

theorem sum_turn {I : Type} [Fintype I] [DecidableEq I] (e : I → Dev nD → Dev nD) (he : ∀ i c, e i (e i c) = c) (g : I → Dev nD → GSem nD τ sig) (n : I → ℕ)
    (i : I) (c : Dev nD) (hg : ∀ i' c', g i' c' = g i c → i' = i ∧ c' = c) :
    (∑ d : Dev nD, (∑ i' : I, (tallyAt (g i' (e i' d)) () (n i') : CellTallies nD τ sig Unit)) (g i c) ()) = n i := by
  have h : ∀ d : Dev nD, (∑ i' : I, (tallyAt (g i' (e i' d)) () (n i') : CellTallies nD τ sig Unit)) (g i c) () = if d = e i c then n i else 0 := fun d => by
    rw [Finset.sum_apply, Finsupp.finset_sum_apply, Finset.sum_eq_single i]
    · rw [tallyAt_apply]
      by_cases hd : d = e i c
      · subst hd; rw [he, if_pos ⟨rfl, rfl⟩, if_pos rfl]
      · rw [if_neg hd, if_neg]
        rintro ⟨h', -⟩
        exact hd (by rw [← (hg _ _ h'.symm).2, he])
    · intro i' _ hi
      rw [tallyAt_apply, if_neg]
      rintro ⟨h', -⟩
      exact hi (hg _ _ h'.symm).1
    · intro h; exact absurd (Finset.mem_univ i) h
  rw [Finset.sum_congr rfl fun d _ => h d, Finset.sum_ite_eq' Finset.univ (e i c) fun _ => n i, if_pos (Finset.mem_univ _)]

theorem OX_all (c : Dev nD) : OX 0 c = ∑ t : Fin 8 × Fin 2, tallyAt (recvCell (pa t.1 t.2 c) t.1 t.2) () (amt t.1) := by
  unfold OX; rw [Finset.filter_true_of_mem fun _ _ => Nat.zero_le _]
theorem OB_all (c : Dev nD) : OB 0 c = ∑ j : Fin 4, tallyAt (barCell (nb j c)) () 1 := by
  unfold OB; rw [Finset.filter_true_of_mem fun _ _ => Nat.zero_le _]

theorem OB_recv (d c : Dev nD) (i : DmaSem sig) : OB 0 d ((c : Thread nD τ), .dma i) () = 0 := by
  rcases Nat.eq_zero_or_pos (OB 0 d ((c : Thread nD τ), .dma i) ()) with h | h
  · exact h
  · obtain ⟨j, hj⟩ := OB_pos h
    exact absurd (congrArg Prod.snd hj) (fun h => by cases h)
theorem OX_bar (d c : Dev nD) : OX 0 d (barCell c) () = 0 := by
  rcases Nat.eq_zero_or_pos (OX 0 d (barCell c) ()) with h | h
  · exact h
  · obtain ⟨ph, sd, _, hj⟩ := OX_pos h
    exact absurd (congrArg Prod.snd hj) (fun h => by cases h)

theorem bar_inj {a b : Dev nD} (h : barCell a = barCell b) : a = b := by have := congrArg (fun g : GSem nD τ sig => g.1.1) h; exact this
theorem recv_inj {a b : Dev nD} {t t' : Fin 8 × Fin 2} (h : recvCell a t.1 t.2 = recvCell b t'.1 t'.2) : t = t' ∧ a = b := by
  refine ⟨?_, by have := congrArg (fun g : GSem nD τ sig => g.1.1) h; exact this⟩
  obtain ⟨h₁, h₂⟩ := semR_inj _ _ _ _ (SemLoc.dma.inj (congrArg Prod.snd h))
  exact Prod.ext h₁ h₂

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same]
  have h : ∀ d : Dev nD, O₀ d (barCell c) () = ∑ j : Fin 4, (tallyAt (barCell (nb j d)) () 1 : CellTallies nD τ sig Unit) (barCell c) () := fun d => by
    unfold O₀; rw [Pi.add_apply, Finsupp.add_apply, OX_bar, Nat.zero_add, OB_all, Finset.sum_apply, Finsupp.finset_sum_apply]
  rw [Finset.sum_congr rfl fun d _ => h d, Finset.sum_comm]
  have h' : ∀ j : Fin 4, (∑ d : Dev nD, (tallyAt (barCell (nb j d)) () 1 : CellTallies nD τ sig Unit) (barCell c) ()) = 1 := fun j => by
    have e := sum_turn (I := Unit) (fun _ => nb j) (fun _ => nb_nb j) (fun _ => barCell) (fun _ => 1) () c (fun _ _ h => ⟨rfl, bar_inj h⟩)
    simpa only [Finset.univ_unique, Finset.sum_singleton] using e
  rw [Finset.sum_congr rfl fun j _ => h' j]
  rfl

theorem launch_recv (c : Dev nD) (t : Fin 8 × Fin 2) :
    tallyOn (recvCell c t.1 t.2) (launchCredit (Pipeline.owing O₀) 0 (recvCell c t.1 t.2)) = (tallyAt (recvCell c t.1 t.2) () (amt t.1) : CellTallies nD τ sig Unit) := by
  unfold tallyAt; refine congrArg _ (Finsupp.ext fun u => ?_); cases u
  rw [Pipeline.launchCredit_owing, Finsupp.single_eq_same]
  have h : ∀ d : Dev nD, O₀ d (recvCell c t.1 t.2) ()
      = (∑ t' : Fin 8 × Fin 2, (tallyAt (recvCell (pa t'.1 t'.2 d) t'.1 t'.2) () (amt t'.1) : CellTallies nD τ sig Unit)) (recvCell c t.1 t.2) () := fun d => by
    unfold O₀; rw [Pi.add_apply, Finsupp.add_apply, OB_recv, Nat.add_zero, OX_all]
  rw [Finset.sum_congr rfl fun d _ => h d]
  exact sum_turn (fun t : Fin 8 × Fin 2 => pa t.1 t.2) (fun t => pa_pa t.1 t.2) (fun t c => recvCell c t.1 t.2) (fun t => amt t.1) t c fun _ _ h => recv_inj h

def recvEmb : (Fin 8 × Fin 2) ↪ SemLoc sig :=
  ⟨fun t => .dma (semR t.1 t.2), fun t t' h => by obtain ⟨h₁, h₂⟩ := semR_inj _ _ _ _ (SemLoc.dma.inj h); exact Prod.ext h₁ h₂⟩

/-- The credits a device starts with. -/
def cres (c : Dev nD) : sProp 𝕄 :=
  iprop(cred (tallyAt (barCell c) () 4) ∗ bigSep Finset.univ fun t : Fin 8 × Fin 2 => cred (tallyAt (recvCell c t.1 t.2) () (amt t.1)))

theorem creds (c : Dev nD) : (Pipeline.launchCred O₀ c : sProp 𝕄) ⊢ cres c := by
  unfold Pipeline.launchCred cres
  rw [bigSep_univ_at _ (SemLoc.reg barS), launch_bar]
  refine sep_mono_right ?_
  have hs : Finset.univ.map recvEmb ⊆ (Finset.univ.erase (SemLoc.reg barS) : Finset (SemLoc sig)) := fun x hx => by
    obtain ⟨t, -, rfl⟩ := Finset.mem_map.mp hx
    have h : (SemLoc.dma (semR t.1 t.2) : SemLoc sig) ≠ .reg barS := fun h => by cases h
    exact Finset.mem_erase.mpr ⟨h, Finset.mem_univ _⟩
  refine BI.Entails.trans (bigSep_subset hs) ?_
  rw [bigSep_map]
  exact bigSep_mono fun t _ => Entails.of_eq (congrArg cred (launch_recv c t))

/-! ## The kits -/

/-- A device's positions. -/
def poss (c : Dev nD) : sProp 𝕄 := bigSep Finset.univ fun k : CI => atPos ER (kcell (c, k)) 0 ∅ 0

theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

theorem kits (c : Dev nD) : iprop(poss (F := F) c ∗ payToks c ∗ cres c) ⊢ iprop(barKit c ∗ bigSep Finset.univ fun ph => kp c ph) := by
  rw [kps_eq]
  unfold poss payToks cres barKit kit
  rw [bigSep_CI, bigSep_ends, bigSep_sep', bigSep_sep', bigSep_sep', bigSep_sep', bigSep_four]
  iintro ⟨⟨Pb, Ps, Pr⟩, ⟨Tb, Ts, Tr⟩, Cb, Cr⟩
  isplitl [Pb Tb Cb]
  · isplitl [Pb]; · iexact Pb
    isplitl [Tb]; · iexact Tb
    iexact Cb
  isplitl [Ps]; · iexact Ps
  isplitl [Pr]; · iexact Pr
  isplitl [Ts]; · iexact Ts
  isplitl [Tr]; · iexact Tr
  iexact Cr

end Cert.KernelIdeal.Pf

end
-- ==== Proof.Main.lean ====
module

public import proofs.«01_k».proof.Proof.Fund
public import Idealize.ShloMosaic.Lib.Pipeline.CollectiveSegs

@[expose] public section

set_option maxRecDepth 8000

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- A device's arguments, as its windows fetch them. -/
def argOf (c : Dev nD) : Args F where
  x := (win0_0.blk (0 : Fin 1)).view.read (Elt F) (m ((c : Thread nD τ).loc main_arg0))
  wq := (win0_1.blk (0 : Fin 1)).view.read (Elt F) (m ((c : Thread nD τ).loc main_arg1))
  k := (win0_2.blk (0 : Fin 1)).view.read (Elt F) (m ((c : Thread nD τ).loc main_arg2))
  v := (win0_3.blk (0 : Fin 1)).view.read (Elt F) (m ((c : Thread nD τ).loc main_arg3))
  wo := (win0_4.blk (0 : Fin 1)).view.read (Elt F) (m ((c : Thread nD τ).loc main_arg4))

/-- Every device's part of the output. -/
def parts : Parts F := fun d b => part (argOf m d) b

/-! ## Whole buffers -/

theorem owns_eq (c : Dev nD) {s : Shape} {e : EltTy} (M : Memref sig .tc .vmem s e) (X : s.Idx → Elt F e) :
    (owns (Ix := Unit) (Name := ℕ) (U := UU) (Lvl := ℕ) (c : Thread nD τ) M fullShare X : sProp 𝕄) = ownsOn c M Finset.univ X := by
  have h : ∀ f, (M.view.read (Elt F) f = X) = ∀ x ∈ Finset.univ, M.view.read (Elt F) f x = X x := fun f =>
    propext ⟨fun h x _ => congrFun h x, fun h => funext fun x => h x (Finset.mem_univ x)⟩
  unfold owns ownsOn
  simp only [h]
  rfl

theorem anyOn_whole (c : Dev nD) {s : Shape} {e : EltTy} {M : Memref sig .tc .vmem s e} (h : M.view.set = Finset.univ) :
    (anyOn (F := F) c M Finset.univ : sProp 𝕄) = iprop(∃ f : Buf (Elt F) (M.view.loc (c : Thread nD τ)), (M.view.loc (c : Thread nD τ)) ↦{fullShare} f) := by
  unfold anyOn
  rw [View.setOn_univ, h]

theorem scr_eq (c : Dev nD) : (Pipeline.scopedRest (Ix := Unit) (Name := ℕ) (U := UU) (Lvl := ℕ) (Val := Elt F) spec0 c : sProp 𝕄) = scr c := by
  rw [scopedRest0_eq]
  unfold scr
  rw [anyOn_whole c (M := accM 0) (View.set_whole _), anyOn_whole c (M := accM 1) (View.set_whole _),
    anyOn_whole c (M := sbM 0) (View.set_whole _), anyOn_whole c (M := sbM 1) (View.set_whole _),
    anyOn_whole c (M := stM 0) (View.set_whole _), anyOn_whole c (M := stM 1) (View.set_whole _),
    anyOn_whole c (M := gM 0) (View.set_whole _), anyOn_whole c (M := gM 1) (View.set_whole _)]
  rfl

/-! ## The pipeline's data -/

/-- What a device's body starts from, besides its buffers. -/
def start (c : Dev nD) : sProp 𝕄 :=
  iprop((∃ K, ctx (parts m) K) ∗ barKit c ∗ bigSep Finset.univ fun ph => kp (F := F) c ph)
def Φ₀ (c : Dev nD) : sProp 𝕄 := iprop(start m c ∗ scr c)
def Φ₁ (c : Dev nD) : sProp 𝕄 := iprop(semVal (barCell c) 0 ∗ (bigSep Finset.univ fun ph => fp (F := F) c ph) ∗ scr c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => (argOf m c).x
    | ⟨1, _⟩ => (argOf m c).wq
    | ⟨2, _⟩ => (argOf m c).k
    | ⟨3, _⟩ => (argOf m c).v
    | ⟨4, _⟩ => (argOf m c).wo
    | ⟨5, _⟩ => OUT (parts m)
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem fetch_in (w : Fin cfg0.W) (hw : w.val < 5) (t : Fin cfg0.N) : (cfg0.win w).fetch t = true := by
  revert w; decide +revert +kernel

def bodyPre (c : Dev nD) : sProp 𝕄 :=
  iprop(Φ₀ m c ∗ (dats m ρ 0 c).owesAt () (t0_0 : Fin cfg0.N).castSucc ∗ argsOn c (argOf m c) ∗ anyOn c oM Finset.univ)
def bodyPost (c : Dev nD) : sProp 𝕄 :=
  iprop(Φ₁ c ∗ (dats m ρ 0 c).owesAt () (t0_0 : Fin cfg0.N).succ ∗ argsOn c (argOf m c) ∗ ownsOn c oM Finset.univ (OUT (parts m)))

theorem sound_body (c : Dev nD) : bodyPre m ρ c ⊢ WP c body (fun _ => bodyPost m ρ c) := by
  unfold bodyPre bodyPost Φ₀ start
  iintro ⟨⟨⟨⟨%K, #Hc⟩, HB, HK⟩, HS⟩, HO, HA, Ho⟩
  unfold Pipeline.Dat.owesAt Pipeline.owesWithin
  icases HO with ⟨%W, %hW, HO⟩
  rw [show (dats m ρ 0 c).owed (t0_0 : Fin cfg0.N).castSucc = O₀ c from rfl, show (dats m ρ 0 c).owed (t0_0 : Fin cfg0.N).succ = 0 from rfl]
  iapply (wp_body c (parts m) K (argOf m c) (fun _ => rfl)) $$ [HB HK HS HO HA Ho]
  · isplitr; · iexact Hc
    unfold bodyIn owesX
    isplitl [HB]; · iexact HB
    isplitl [HK]; · iexact HK
    isplitl [HS]; · iexact HS
    isplitl [HA]; · iexact HA
    isplitl [Ho]; · iexact Ho
    iexists W; iexact HO
  unfold bodyOut owesX Φ₁
  iintro ⟨Hz, HF, HS, HA, Ho, %W', HO⟩
  isplitl [Hz HF HS]
  · isplitl [Hz]; · iexact Hz
    isplitl [HF] <;> iassumption
  isplitl [HO]
  · iexists W'
    isplitr; · ipureintro; exact fun _ _ => Or.inl trivial
    iexact HO
  isplitl [HA] <;> iassumption

theorem before_in (c : Dev nD) (w : Fin cfg0.W) (hw : w.val < 5) (d) :
    (dats m ρ 0 c).before w t0_0 d = (dats m ρ 0 c).fetched w t0_0 d := by
  unfold Pipeline.Dat.before; rw [if_pos (fetch_in w hw t0_0)]

/-- A fetched window's buffer holds the argument. -/
theorem in_owns (c : Dev nD) {s : Shape} {e : EltTy} (M : Memref sig .tc .vmem s e) (X : s.Idx → Elt F e) (Y : (s.Idx → Elt F e) → s.Idx → Elt F e) (h : ∀ d, Y d = X) :
    iprop(∃ d, owns (Ix := Unit) (Name := ℕ) (U := UU) (Lvl := ℕ) (c : Thread nD τ) M fullShare (Y d)) ⊢ (ownsOn c M Finset.univ X : sProp 𝕄) := by
  have e : ∀ d, (owns (Ix := Unit) (Name := ℕ) (U := UU) (Lvl := ℕ) (c : Thread nD τ) M fullShare (Y d) : sProp 𝕄) ⊢ ownsOn c M Finset.univ X :=
    fun d => Entails.of_eq (by rw [h d, owns_eq])
  iintro ⟨%d, H⟩
  iapply (e d)
  iexact H
theorem out_owns (c : Dev nD) {s : Shape} {e : EltTy} (M : Memref sig .tc .vmem s e) (Y : (s.Idx → Elt F e) → s.Idx → Elt F e) :
    iprop(∃ d, owns (Ix := Unit) (Name := ℕ) (U := UU) (Lvl := ℕ) (c : Thread nD τ) M fullShare (Y d)) ⊢ (anyOn c M Finset.univ : sProp 𝕄) := by
  have e : ∀ d, (owns (Ix := Unit) (Name := ℕ) (U := UU) (Lvl := ℕ) (c : Thread nD τ) M fullShare (Y d) : sProp 𝕄) ⊢ anyOn c M Finset.univ :=
    fun d => BI.Entails.trans (Entails.of_eq (owns_eq c M (Y d))) ownsOn_any
  iintro ⟨%d, H⟩
  iapply (e d)
  iexact H

theorem sep_args (P Q A B C D E O : sProp 𝕄) : iprop(P ∗ Q ∗ (A ∗ B ∗ C ∗ D ∗ E) ∗ O) = iprop(P ∗ Q ∗ A ∗ B ∗ C ∗ D ∗ E ∗ O) := by
  have h₁ : iprop(P ∗ Q ∗ (A ∗ B ∗ C ∗ D ∗ E) ∗ O) ⊢ iprop(P ∗ Q ∗ A ∗ B ∗ C ∗ D ∗ E ∗ O) := by
    iintro ⟨H1, H2, ⟨A, B, C, D, E⟩, O⟩
    isplitl [H1]; · iexact H1
    isplitl [H2]; · iexact H2
    isplitl [A]; · iexact A
    isplitl [B]; · iexact B
    isplitl [C]; · iexact C
    isplitl [D]; · iexact D
    isplitl [E] <;> iassumption
  have h₂ : iprop(P ∗ Q ∗ A ∗ B ∗ C ∗ D ∗ E ∗ O) ⊢ iprop(P ∗ Q ∗ (A ∗ B ∗ C ∗ D ∗ E) ∗ O) := by
    iintro ⟨H1, H2, A, B, C, D, E, O⟩
    isplitl [H1]; · iexact H1
    isplitl [H2]; · iexact H2
    isplitr [O]
    · isplitl [A]; · iexact A
      isplitl [B]; · iexact B
      isplitl [C]; · iexact C
      isplitl [D] <;> iassumption
    iexact O
  exact BI.Entails.antisymm h₁ h₂

set_option maxRecDepth 100000 in
/-- The body's obligation on core `c`. -/
theorem body_obligation (c : Dev nD) : Pipeline.BodyObligation (dats (F := F) m ρ 0 c) (defs₀ (F := F)) 𝒱₀ () Set.univ := fun t => by
  rw [fin_N0 t, bigSep_W0, bigSep_W0]
  refine BI.Entails.trans (Q := bodyPre m ρ c) ?_ (BI.Entails.trans (Q := WP c body (fun _ => bodyPost m ρ c)) (sound_body m ρ c) ?_)
  · unfold bodyPre argsOn
    show iprop(Φ₀ m c ∗ (dats m ρ 0 c).owesAt () (t0_0 : Fin cfg0.N).castSucc
      ∗ (∃ d, owns (Ix := Unit) (Name := ℕ) (U := UU) (Lvl := ℕ) (c : Thread nD τ) xM fullShare ((dats m ρ 0 c).before (0 : Fin 6) t0_0 d))
      ∗ (∃ d, owns (Ix := Unit) (Name := ℕ) (U := UU) (Lvl := ℕ) (c : Thread nD τ) wqM fullShare ((dats m ρ 0 c).before (1 : Fin 6) t0_0 d))
      ∗ (∃ d, owns (Ix := Unit) (Name := ℕ) (U := UU) (Lvl := ℕ) (c : Thread nD τ) kM fullShare ((dats m ρ 0 c).before (2 : Fin 6) t0_0 d))
      ∗ (∃ d, owns (Ix := Unit) (Name := ℕ) (U := UU) (Lvl := ℕ) (c : Thread nD τ) vM fullShare ((dats m ρ 0 c).before (3 : Fin 6) t0_0 d))
      ∗ (∃ d, owns (Ix := Unit) (Name := ℕ) (U := UU) (Lvl := ℕ) (c : Thread nD τ) woM fullShare ((dats m ρ 0 c).before (4 : Fin 6) t0_0 d))
      ∗ (∃ d, owns (Ix := Unit) (Name := ℕ) (U := UU) (Lvl := ℕ) (c : Thread nD τ) oM fullShare ((dats m ρ 0 c).before (5 : Fin 6) t0_0 d))) ⊢ _
    iintro ⟨HP, HO, H0, H1, H2, H3, H4, H5⟩
    isplitl [HP]; · iexact HP
    isplitl [HO]; · iexact HO
    isplitr [H5]
    · isplitl [H0]
      · iapply (in_owns c xM (argOf m c).x _ fun d => (before_in m ρ c (0 : Fin 6) (by decide) d).trans rfl); iexact H0
      isplitl [H1]
      · iapply (in_owns c wqM (argOf m c).wq _ fun d => (before_in m ρ c (1 : Fin 6) (by decide) d).trans rfl); iexact H1
      isplitl [H2]
      · iapply (in_owns c kM (argOf m c).k _ fun d => (before_in m ρ c (2 : Fin 6) (by decide) d).trans rfl); iexact H2
      isplitl [H3]
      · iapply (in_owns c vM (argOf m c).v _ fun d => (before_in m ρ c (3 : Fin 6) (by decide) d).trans rfl); iexact H3
      iapply (in_owns c woM (argOf m c).wo _ fun d => (before_in m ρ c (4 : Fin 6) (by decide) d).trans rfl); iexact H4
    · iapply (out_owns c oM); iexact H5
  · have hb : ∀ p : Prog (TpuEff nD τ sig (Elt F) Λ₀ .tc) PUnit, p = body → (WP c body (fun _ => bodyPost m ρ c) : sProp 𝕄)
        ⊢ WP c p (fun _ => iprop(Φ₁ c ∗ (dats m ρ 0 c).owesAt () (t0_0 : Fin cfg0.N).succ
      ∗ owns (Ix := Unit) (Name := ℕ) (U := UU) (Lvl := ℕ) (c : Thread nD τ) xM fullShare (argOf m c).x
      ∗ owns (Ix := Unit) (Name := ℕ) (U := UU) (Lvl := ℕ) (c : Thread nD τ) wqM fullShare (argOf m c).wq
      ∗ owns (Ix := Unit) (Name := ℕ) (U := UU) (Lvl := ℕ) (c : Thread nD τ) kM fullShare (argOf m c).k
      ∗ owns (Ix := Unit) (Name := ℕ) (U := UU) (Lvl := ℕ) (c : Thread nD τ) vM fullShare (argOf m c).v
      ∗ owns (Ix := Unit) (Name := ℕ) (U := UU) (Lvl := ℕ) (c : Thread nD τ) woM fullShare (argOf m c).wo
      ∗ owns (Ix := Unit) (Name := ℕ) (U := UU) (Lvl := ℕ) (c : Thread nD τ) oM fullShare (OUT (parts m)))) := by
      rintro p rfl
      refine Entails.of_eq (congrArg (WP c body) (funext fun _ => ?_))
      simp only [owns_eq]
      unfold bodyPost argsOn
      exact sep_args _ _ _ _ _ _ _ _
    exact hb _ (body_eq t0_0)

/-! ## The launch -/

/-- The kernel's own semaphores. -/
abbrev osem : Fin 2 × Fin 8 × Fin 2 → SemLoc sig := fun k => csem (some k)
theorem ownSemFacts : Pipeline.OwnSemFacts cfg0.spec osem where
  isScoped := by decide +kernel
  inj a b h := Option.some.inj (csem_inj h)
  disj k w s := by revert s; revert w; revert k; decide +kernel

theorem share_eq (c : Dev nD) (w : Fin cfg0.W) : (dats m ρ 0 c).share w = fullShare := by unfold Pipeline.Dat.share; split <;> rfl

def u₀ : UU :=
  (initOf (Pipeline.cells cfgs cellOf_inj) (Pipeline.launchToks cfgs cellOf_inj), initOf xCells xToks)

/-- What the launch deals device `c`. -/
def G (c : Dev nD) : sProp 𝕄 :=
  iprop((bigSep Finset.univ fun k : CI => roundState ER (Rd (parts m)) (kcell (c, k)) 0)
    ∗ poss (F := F) c ∗ (bigSep Finset.univ fun k : CI => reached ER (kcell (c, k)) 0) ∗ toks c)
/-- What the step over all devices makes of it. -/
def G' (c : Dev nD) : sProp 𝕄 := iprop((∃ K, records (parts m) K) ∗ poss (F := F) c ∗ payToks c)

theorem xToks_eq : bigSep xToks (fun x => (dutyTok ER x.1 x.2.1 x.2.2 : sProp 𝕄)) = bigSep Finset.univ fun c : Dev nD => toks c := by
  unfold xToks; rw [bigSep_map, bigSep_univ_prod]
  exact bigSep_congr fun c _ => by unfold toks; rw [bigSep_univ_sum, bigSep_ends]; rfl
theorem xCells_eq (Φ : GSem nD τ sig → sProp 𝕄) :
    bigSep xCells Φ = bigSep Finset.univ fun c : Dev nD => bigSep Finset.univ fun k : CI => Φ (kcell (c, k)) := by
  unfold xCells; rw [bigSep_map, bigSep_univ_prod]; rfl

theorem fund : BI.own (ER (initOf xCells xToks)) ⊢ (|==> bigSep Finset.univ (G m) : sProp 𝕄) := by
  iintro HX
  imod (Rounds.fund ER (Rd (parts m)) xCells xToks) $$ HX with ⟨Hst, Hr, Hat, Htok⟩
  imodintro
  ihave Hst := (Entails.of_eq (xCells_eq fun g => roundState ER (Rd (parts m)) g 0)) $$ Hst
  ihave Hat := (Entails.of_eq (xCells_eq fun g => atPos ER g 0 ∅ 0)) $$ Hat
  ihave Hr := (Entails.of_eq (xCells_eq fun g => reached ER g 0)) $$ Hr
  ihave Htok := (Entails.of_eq xToks_eq) $$ Htok
  unfold G poss; simp only [bigSep_sep']
  isplitl [Hst]; · iexact Hst
  isplitl [Hat]; · iexact Hat
  isplitl [Hr] <;> iassumption

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_CI]
  iintro ⟨HS, HB⟩
  isplitl [HB]; · iexact HB
  unfold Pipeline.ownSems0
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (parts m)) κ (kcell (c, k))))
          ∗ poss (F := F) c ∗ (bigSep Finset.univ fun k : CI => reached ER (kcell (c, k)) 0) ∗ toks c) := by
  unfold G
  iintro ⟨Hos, Hus, Hst, Hrest⟩
  ihave Hv := (sems0_eq (F := F) c) $$ [Hos Hus]
  · isplitl [Hos] <;> iassumption
  have h : iprop((bigSep Finset.univ fun k : CI => semVal (kcell (c, k)) 0) ∗ bigSep Finset.univ fun k : CI => roundState ER (Rd (parts m)) (kcell (c, k)) 0)
      ⊢ (|={Set.univ}=> bigSep Finset.univ fun k => iprop(∃ κ : ℕ, cellInv ER (Rd (parts m)) κ (kcell (c, k))) : sProp 𝕄) := by
    rw [← bigSep_sep']
    exact BI.Entails.trans (bigSep_mono fun k _ => BI.Entails.trans (Rounds.body_intro ER (Rd (parts m)) (kcell (c, k))) inv_alloc) (bigSep_fupd _ _)
  imod h $$ [Hv Hst] with Hinv
  · isplitl [Hv] <;> iassumption
  imodintro
  isplitl [Hinv] <;> iassumption

theorem regroup :
    (bigSep Finset.univ fun c : Dev nD => iprop((bigSep Finset.univ fun k => iprop(∃ κ : ℕ, cellInv ER (Rd (parts m)) κ (kcell (c, k))))
          ∗ poss (F := F) c ∗ (bigSep Finset.univ fun k : CI => reached ER (kcell (c, k)) 0) ∗ toks c) : sProp 𝕄)
      ⊢ bigSep Finset.univ (G' m) := by
  rw [bigSep_sep', bigSep_sep', bigSep_sep', ← bigSep_univ_prod (fun ck : Dev nD × CI => iprop(∃ κ : ℕ, cellInv ER (Rd (parts m)) κ (kcell ck))),
    ← bigSep_univ_prod (fun ck : Dev nD × CI => (reached ER (kcell ck) 0 : sProp 𝕄)), toks_around]
  iintro ⟨HI, Hat, #HR, Htok⟩
  ihave HK := (BI.bigSep_exists_pi Finset.univ (fun (ck : Dev nD × CI) (κ : ℕ) => (cellInv ER (Rd (parts m)) κ (kcell ck) : sProp 𝕄))) $$ HI
  icases HK with ⟨%K, #HI⟩
  iapply (bigSep_with_persistent (R := records (parts m) K) (Φ := fun c => iprop(poss (F := F) c ∗ payToks c)) fun c _ => by
    unfold G'
    iintro ⟨H, H1, H2⟩
    isplitl [H]; · iexists K; iexact H
    isplitl [H1] <;> iassumption)
  isplitr
  · unfold records; isplitl; · iexact HI
    iexact HR
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  BI.Entails.trans (BI.Entails.trans (bigSep_mono fun c _ => core_alloc m c) (bigSep_fupd _ _)) (BI.fupd_mono (regroup m))

theorem start_intro (c : Dev nD) :
    iprop(Pipeline.unscopedRestP Pipeline.Prefetch.none cfg0.spec c (fun b => m ((c : Thread nD τ).loc b)) ∗ levAts LL lv
        ∗ Pipeline.launchCred O₀ c ∗ prngReg c (ρ c) ∗ G' m c)
      ⊢ |={Set.univ}=> iprop(start m c ∗ emp) := by
  unfold start G'
  iintro ⟨-, Hlev, Hcr, -, ⟨%K, HR⟩, Hp, Ht⟩
  ihave Hc := (creds (F := F) c) $$ Hcr
  imodintro
  isplitl
  · isplitl [HR Hlev]
    · iexists K; unfold ctx; isplitl [HR] <;> iassumption
    iapply (kits c)
    isplitl [Hp]; · iexact Hp
    isplitl [Ht] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq, unscopedSems0_eq]
  unfold Φ₁ Pipeline.ownSems0
  rw [fps_eq, bigSep_ends]
  unfold fin
  rw [bigSep_sep']
  iintro ⟨Hz, ⟨HS, HR⟩, Hr⟩
  isplitl [Hz]; · iexact Hz
  isplitr [Hr]
  · isplitl [HS]; · iexact HS
    iexact HR
  iexact Hr

theorem waits (c : Dev nD) : (levAts LL lv : sProp 𝕄) ⊢ Pipeline.cellsWaits cfgs (dats m ρ) () 0 c :=
  Pipeline.cellsWaits_intro cfgs (dats m ρ) () 0 c fun w s t => by
    have hn : ¬ isR (((cfgs 0).win w).sem s) := by
      revert s; revert w; decide +kernel
    rcases t with ⟨_ | _, ht⟩
    · exact mayWait_stage c _ hn
    · show _ ⊢ MayWait (c : Thread nD τ) _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with its semaphores at zero every fair execution of the sixteen devices ends, every device's
    arguments as they were, its result the computed one, every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := LL) (lv := lv) (hL := LL_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_in (c : Dev nD) (w : Fin cfg0.W) (hw : w.val < 5) : finalA m ρ c w = m ((cfg0.win w).arr.view.loc (c : Thread nD τ)) := by
  refine (dats (F := F) m ρ 0 c).arrAt_in w ?_ _
  revert w; decide +kernel
/-- The result array read back is what the body left. -/
theorem final_out (c : Dev nD) : (win0_5.blk (0 : Fin 1)).view.read (Elt F) (finalA m ρ c (5 : Fin 6)) = OUT (parts m) := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide +kernel, if_pos rfl]
  exact View.read_write_univ _ _

end Cert.KernelIdeal.Pf

end
-- ==== Proof.Sum.lean ====
module

public import proofs.«01_k».proof.Proof.Store

public import Idealize.ShloMosaic.Lib.Pointwise

@[expose] public section

set_option maxRecDepth 8000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open scoped BigOperators

/-- The devices whose parts a device has added after some rounds. -/
def grp (sd : Fin 2) : ℕ → Dev nD → Finset (Dev nD)
  | 0, c => {c}
  | k + 1, c => grp sd k c ∪ grp sd k (pr sd ⟨k % 4, Nat.mod_lt _ (by decide)⟩ c)

theorem grp_disj : ∀ (sd : Fin 2) (k : Fin 4) (c : Dev nD), Disjoint (grp sd k.val c) (grp sd k.val (pr sd ⟨k.val % 4, Nat.mod_lt _ (by decide)⟩ c)) := by
  decide +kernel

/-- After four rounds it has every device's. -/
theorem grp_all : ∀ (sd : Fin 2) (c : Dev nD), grp sd 4 c = Finset.univ := by decide +kernel

/-- Over the reals a row kept is the sum of the parts of the devices met. -/
theorem ACC_sum (pt : Parts Ideal) (sd : Fin 2) (k : ℕ) (hk : k ≤ 4) (c : Dev nD) (x : (T 16).Idx) (h : x ∈ blk sd k c) :
    ACC pt sd k c x = (∑ d ∈ grp sd k c, ACC0 pt sd d x : EReal) := by
  induction k generalizing c with
  | zero => simp [grp, ACC]
  | succ k ih =>
    have hk' : k < 4 := hk
    have e : (⟨k % 4, Nat.mod_lt _ (by decide)⟩ : Fin 4) = ⟨k, hk'⟩ := Fin.ext (Nat.mod_eq_of_lt hk')
    have h1 : x ∈ blk sd k c := by rw [blk_split sd ⟨k, hk'⟩ c]; exact Finset.mem_union_left _ h
    have h2 : x ∈ blk sd k (pr sd ⟨k, hk'⟩ c) := by
      rw [blk_split sd ⟨k, hk'⟩ (pr sd ⟨k, hk'⟩ c), pr_pr]; exact Finset.mem_union_right _ h
    have hd := grp_disj sd ⟨k, hk'⟩ c
    rw [show ACC pt sd (k + 1) c x = _ from ACC_succ pt sd ⟨k, hk'⟩ c x, if_pos h]
    unfold grp
    rw [Finset.sum_union hd, e]
    exact congrArg₂ (fun a b : EReal => a + b) (ih hk'.le c h1) (ih hk'.le _ h2)

/-- Over the reals an element of the output is the sum of every device's part of it. -/
theorem OUT_sum (pt : Parts Ideal) (b : Fin 2) (i : Fin 512) (j : Fin 768) :
    OUT pt (ix3 b i j) = (∑ d : Dev nD, pt d b (ix2 i j) : EReal) := by
  have hi := i.isLt
  have hj := j.isLt
  have hq : i.val / 32 < 16 := by omega
  have hs : j.val / 384 < 2 := by omega
  show ACC pt ⟨j.val / 384, hs⟩ 4 (own ⟨j.val / 384, hs⟩ ⟨perm ⟨j.val / 384, hs⟩ ⟨i.val / 32, hq⟩, perm_lt _ _⟩)
    (ix4 (⟨perm ⟨j.val / 384, hs⟩ ⟨i.val / 32, hq⟩, perm_lt _ _⟩ : Fin 16) b (⟨i.val % 32, Nat.mod_lt _ (by decide)⟩ : Fin 32) (⟨j.val % 384, Nat.mod_lt _ (by decide)⟩ : Fin 384)) = _
  rw [own_perm, ACC_sum pt _ 4 le_rfl _ _ (by rw [mem_blk]; rfl), grp_all]
  refine Finset.sum_congr rfl fun d _ => ?_
  unfold ACC0 pieceV
  show shapeCast S1x1x32x384 _ shapeCasts_S32x384_S1x1x32x384 (ix4 (0 : Fin 1) (0 : Fin 1) (⟨i.val % 32, Nat.mod_lt _ (by decide)⟩ : Fin 32) (⟨j.val % 384, Nat.mod_lt _ (by decide)⟩ : Fin 384)) = _
  pointwise
  refine congrArg (pt d b) (congrArg₂ ix2 (Fin.ext ?_) (Fin.ext ?_))
  · show 32 * (own _ ⟨perm _ _, perm_lt _ _⟩).val + i.val % 32 = i.val
    rw [own_perm]; show 32 * (i.val / 32) + i.val % 32 = i.val; omega
  · show 384 * (j.val / 384) + j.val % 384 = j.val; omega

end Cert.KernelIdeal.Pf

end
-- ==== Proof.Soft.lean ====
module

public import Idealize.ShloMosaic.PureOps.Ideal

@[expose] public section

noncomputable section

namespace Cert.Soft

open Idealize.ShloMosaic
open scoped BigOperators

/-- A real factor that is not negative goes into a sum of extended reals. -/
theorem mul_sum {ι : Type} (c : ℝ) (hc : 0 ≤ c) (f : ι → EReal) (s : Finset ι) : (c : EReal) * ∑ i ∈ s, f i = ∑ i ∈ s, (c : EReal) * f i := by
  classical
  induction s using Finset.induction_on with
  | empty => simp
  | insert a s ha ih => rw [Finset.sum_insert ha, Finset.sum_insert ha, EReal.left_distrib_of_nonneg_of_ne_top (EReal.coe_nonneg.mpr hc) (EReal.coe_ne_top c), ih]

/-- A sum of reals, as extended reals. -/
theorem sum_coe {ι : Type} (f : ι → ℝ) (s : Finset ι) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Sums and products of reals are real. -/
theorem real_dot {ι : Type} [Fintype ι] (f g : ι → EReal) (hf : ∀ i, ∃ r : ℝ, f i = r) (hg : ∀ i, ∃ r : ℝ, g i = r) :
    ∃ r : ℝ, ∑ i, f i * g i = r := by
  choose a ha using hf
  choose b hb using hg
  exact ⟨∑ i, a i * b i, by rw [← sum_coe]; exact Finset.sum_congr rfl fun i _ => by rw [ha, hb, EReal.coe_mul]⟩

/-- The greatest of finitely many reals, at least one, is real. -/
theorem real_max {n : ℕ} (t : Fin (n + 1) → EReal) (ht : ∀ i, ∃ r : ℝ, t i = r) : ∃ r : ℝ, Finset.univ.fold max ⊥ t = r := by
  have h : Finset.univ.fold max ⊥ t = Finset.univ.sup t := rfl
  obtain ⟨i, -, hi⟩ := Finset.exists_mem_eq_sup (Finset.univ : Finset (Fin (n + 1))) ⟨0, Finset.mem_univ _⟩ t
  obtain ⟨r, hr⟩ := ht i
  exact ⟨r, by rw [h, hi, hr]⟩

theorem exp_coe (r : ℝ) : Ideal.exp (r : EReal) = ((Real.exp r : ℝ) : EReal) := rfl

/-- A softmax's weighted sum: dividing the sum of the weighted values by the sum of the exponentials is weighting by the
quotients of the exponentials of the scores less any real. The values need not be finite. -/
theorem soft {n : ℕ} (t v : Fin (n + 1) → EReal) (M : EReal) (ht : ∀ i, ∃ r : ℝ, t i = r) (hM : ∃ r : ℝ, M = r) :
    Ideal.div (∑ i, Ideal.exp (t i) * v i) (∑ i, Ideal.exp (t i))
      = ∑ i, Ideal.div (Ideal.exp (t i - M)) (∑ j, Ideal.exp (t j - M)) * v i := by
  choose r hr using ht
  obtain ⟨M, rfl⟩ := hM
  have e1 : ∀ i, Ideal.exp (t i) = ((Real.exp (r i) : ℝ) : EReal) := fun i => by rw [hr]; rfl
  have e2 : ∀ i, Ideal.exp (t i - M) = ((Real.exp (r i - M) : ℝ) : EReal) := fun i => by rw [hr, ← EReal.coe_sub]; rfl
  simp only [e1, e2, sum_coe]
  have p1 : 0 < ∑ i, Real.exp (r i) := Finset.sum_pos (fun i _ => Real.exp_pos _) ⟨0, Finset.mem_univ _⟩
  have p2 : 0 < ∑ i, Real.exp (r i - M) := Finset.sum_pos (fun i _ => Real.exp_pos _) ⟨0, Finset.mem_univ _⟩
  have s : ∑ i, Real.exp (r i - M) = (∑ i, Real.exp (r i)) * Real.exp (-M) := by
    rw [Finset.sum_mul]; exact Finset.sum_congr rfl fun i _ => by rw [sub_eq_add_neg, Real.exp_add]
  rw [Ideal.div_coe p1.ne', mul_comm, mul_sum _ (by positivity)]
  refine Finset.sum_congr rfl fun i _ => ?_
  rw [Ideal.div_coe p2.ne', ← mul_assoc, ← EReal.coe_mul, ← EReal.coe_mul]
  congr 2
  rw [s, sub_eq_add_neg, Real.exp_add]
  have := Real.exp_pos (-M)
  field_simp

end Cert.Soft

end
-- ==== Proof.Loc.lean ====
module

public import proofs.«01_k».proof.Proof.Sum

public import proofs.«01_k».proof.Proof.Soft
public import Idealize.ShloMosaic.Lib.Pointwise

@[expose] public section

set_option maxRecDepth 8000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open scoped BigOperators

/-- The floored quotient by 64, as the kernel computes it on words, of a position. -/
theorem floor_word : ∀ i : Fin 512, (Scalar.select
        (IntOp.andi
          (IntOp.cmpi CmpIPredicate.ne
            (IntOp.subi (BitVec.setWidth 32 (IntOp.cmpi CmpIPredicate.sgt (BitVec.ofNat 32 i.val) 0#32))
              (BitVec.setWidth 32 (IntOp.cmpi CmpIPredicate.slt (BitVec.ofNat 32 i.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 i.val) 64#32) 0#32))
        (IntOp.subi (IntOp.divsi ArithUnit.vector (BitVec.ofNat 32 i.val) 64#32) 1#32)
        (IntOp.divsi ArithUnit.vector (BitVec.ofNat 32 i.val) 64#32)) = BitVec.ofNat 32 (i.val / 64) := by decide +kernel

/-- The signed order of small words. -/
theorem sle_word : ∀ a b : Fin 8, IntOp.cmpi CmpIPredicate.sle (BitVec.ofNat 32 b.val) (BitVec.ofNat 32 a.val) = BitVec.ofBool (decide (b.val ≤ a.val)) := by
  decide +kernel

/-- The mask: a position sees the blocks of 64 up to its own. -/
theorem mask_apply (i j : Fin 512) : maskV (ix2 i j) = BitVec.ofBool (decide (j.val / 64 ≤ i.val / 64)) := by
  pointwise [maskV, k0_pay4, k0_pay2, k0_pay3]
  rw [floor_word i, floor_word j]
  exact sle_word ⟨i.val / 64, by have := i.isLt; omega⟩ ⟨j.val / 64, by have := j.isLt; omega⟩

/-- The queries. -/
theorem q_apply (wq : Vec Ideal S768x512 .bf16) (x : Vec Ideal S1x512x768 .bf16) (i c : Fin 512) :
    qV wq x (ix2 i c) = (∑ m : Fin 768, x (ix3 0 i m) * wq (ix2 m c) : EReal) := by
  pointwise [qV]

/-- The exponential of a masked score. -/
theorem exp_apply (q16 : FVec Ideal S512x512 .bf16) (h : Fin 8) (k : Vec Ideal S1x512x1x64 .bf16) (i j : Fin 512) :
    expV q16 h k (ix2 i j) = Ideal.exp (if j.val / 64 ≤ i.val / 64 then
      (∑ d : Fin 64, q16 (ix2 i ⟨64 * h.val + d.val, by have := h.isLt; have := d.isLt; omega⟩) * k (ix4 0 j 0 d)) * Ideal.ofBits .f32 0x3E000000#32
      else Ideal.ofBits .f32 0xCE6E6B28#32) := by
  pointwise [expV]
  rw [mask_apply]
  by_cases c : j.val / 64 ≤ i.val / 64
  · rw [if_pos c, decide_eq_true c]; rfl
  · rw [if_neg c, decide_eq_false c]; rfl

/-- A head's context. -/
theorem head_apply (q16 : FVec Ideal S512x512 .bf16) (h : Fin 8) (k v : Vec Ideal S1x512x1x64 .bf16) (i : Fin 512) (d : Fin 64) :
    headV q16 h k v (ix2 i d) = Ideal.div (∑ j : Fin 512, expV q16 h k (ix2 i j) * v (ix4 0 j 0 d)) (∑ j : Fin 512, expV q16 h k (ix2 i j)) := by
  pointwise [headV]

theorem emb_x (b : Fin 2) (i : Fin 512) (m : Fin 768) : (xR b).emb (ix3 0 i m) = ix3 b i m := by
  funext a; apply Fin.ext; rw [Rect.emb_apply]
  match a with
  | ⟨0, _⟩ => simp
  | ⟨1, _⟩ => simp
  | ⟨2, _⟩ => simp
theorem emb_kv (b : Fin 2) (h : Fin 8) (j : Fin 512) (d : Fin 64) : (kvR b h).emb (ix4 0 j 0 d) = ix4 b j h d := by
  funext a; apply Fin.ext; rw [Rect.emb_apply]
  match a with
  | ⟨0, _⟩ => simp
  | ⟨1, _⟩ => simp
  | ⟨2, _⟩ => simp
  | ⟨3, _⟩ => simp
theorem emb_wq (m : Fin 768) (c : Fin 512) : wqR.emb (ix2 m c) = ix2 m c := by
  funext a; apply Fin.ext; rw [Rect.emb_apply]
  match a with
  | ⟨0, _⟩ => simp
  | ⟨1, _⟩ => simp
theorem emb_wo (r : Fin 512) (m : Fin 768) : woR.emb (ix2 r m) = ix2 r m := by
  funext a; apply Fin.ext; rw [Rect.emb_apply]
  match a with
  | ⟨0, _⟩ => simp
  | ⟨1, _⟩ => simp

/-- Eight pieces of 64 side by side, read at a column. -/
theorem pieces_at (f : Fin 8 → Fin 64 → EReal) (r : Fin 512) :
    (if h : r.val < 64 then f 0 ⟨r.val, h⟩ else
      if h : r.val - 64 < 64 then f 1 ⟨r.val - 64, h⟩ else
      if h : r.val - 64 - 64 < 64 then f 2 ⟨r.val - 64 - 64, h⟩ else
      if h : r.val - 64 - 64 - 64 < 64 then f 3 ⟨r.val - 64 - 64 - 64, h⟩ else
      if h : r.val - 64 - 64 - 64 - 64 < 64 then f 4 ⟨r.val - 64 - 64 - 64 - 64, h⟩ else
      if h : r.val - 64 - 64 - 64 - 64 - 64 < 64 then f 5 ⟨r.val - 64 - 64 - 64 - 64 - 64, h⟩ else
      if h : r.val - 64 - 64 - 64 - 64 - 64 - 64 < 64 then f 6 ⟨r.val - 64 - 64 - 64 - 64 - 64 - 64, h⟩ else
      f 7 ⟨r.val - 64 - 64 - 64 - 64 - 64 - 64 - 64, by have := r.isLt; omega⟩) = f ⟨r.val / 64, by have := r.isLt; omega⟩ ⟨r.val % 64, Nat.mod_lt _ (by decide)⟩ := by
  have hr := r.isLt
  split_ifs
  all_goals exact congrArg₂ f (Fin.ext (by first | (show 0 = r.val / 64; omega) | (show 1 = r.val / 64; omega) | (show 2 = r.val / 64; omega) | (show 3 = r.val / 64; omega) | (show 4 = r.val / 64; omega) | (show 5 = r.val / 64; omega) | (show 6 = r.val / 64; omega) | (show 7 = r.val / 64; omega))) (Fin.ext (by simp only []; omega))

/-- A device's part of the output: its heads' contexts, side by side, times its rows of the output weights. -/
theorem part_apply (a : Args Ideal) (b : Fin 2) (i : Fin 512) (m : Fin 768) :
    part a b (ix2 i m) = (∑ r : Fin 512, headV (qS a b) ⟨r.val / 64, by have := r.isLt; omega⟩ (kvS a.k b ⟨r.val / 64, by have := r.isLt; omega⟩)
      (kvS a.v b ⟨r.val / 64, by have := r.isLt; omega⟩) (ix2 i ⟨r.val % 64, Nat.mod_lt _ (by decide)⟩) * a.wo (ix2 r m) : EReal) := by
  pointwise [part, partV]
  refine Finset.sum_congr rfl fun r _ => ?_
  rw [emb_wo]
  exact congrArg (fun z : EReal => z * a.wo (ix2 r m)) (pieces_at (fun h d => headV (qS a b) h (kvS a.k b h) (kvS a.v b h) (ix2 i d)) r)

/-- A device's queries. -/
theorem qS_apply (a : Args Ideal) (b : Fin 2) (i c : Fin 512) : qS a b (ix2 i c) = (∑ m : Fin 768, a.x (ix3 b i m) * a.wq (ix2 m c) : EReal) := by
  unfold qS
  rw [q_apply]
  exact Finset.sum_congr rfl fun m _ => by rw [emb_x, emb_wq]

/-- One head's keys or values. -/
theorem kvS_apply (X : Vec Ideal S2x512x8x64 .bf16) (b : Fin 2) (h : Fin 8) (j : Fin 512) (d : Fin 64) : kvS X b h (ix4 0 j 0 d) = X (ix4 b j h d) :=
  congrArg X (emb_kv b h j d)

end Cert.KernelIdeal.Pf

end
-- ==== Proof.Ref.lean ====
module

public import proofs.«01_k».proof.Proof.Gen.ReferenceIdeal.Run
public import Idealize.ShloMosaic.Lib.Pointwise
public import proofs.«01_k».proof.Proof.Soft

@[expose] public section

set_option maxRecDepth 8000

noncomputable section

namespace Cert.ReferenceIdeal.Pf

open Cert.ReferenceIdeal Cert.ReferenceIdeal.Gen Idealize.ShloMosaic Idealize.ShloMosaic.TcCoe Idealize.SL.Sem Idealize.ShloMosaic.StableHlo
open scoped BigOperators

section
variable {F : FTy → Type} [FloatOps F]

/-- The block of 64 a position lies in, by a floored quotient. -/
def blkR : IVec S512 32 :=
  select (andi (cmpi .ne (signi (iotaInDim S512 32 0)) (broadcastInDim S512 ![] bcast_S_S512 (signi (id (constantI S_ 32 64#32))))) (cmpi .ne (Host.remsi (iotaInDim S512 32 0) (broadcastInDim S512 ![] bcast_S_S512 (id (constantI S_ 32 64#32)))) (broadcastInDim S512 ![] bcast_S_S512 (constantI S_ 32 0#32)))) (subi (Host.divsi (iotaInDim S512 32 0) (broadcastInDim S512 ![] bcast_S_S512 (id (constantI S_ 32 64#32)))) (broadcastInDim S512 ![] bcast_S_S512 (constantI S_ 32 1#32))) (Host.divsi (iotaInDim S512 32 0) (broadcastInDim S512 ![] bcast_S_S512 (id (constantI S_ 32 64#32))))

/-- The mask of the scores. -/
def maskR : IVec S512x512 1 :=
  cmpi .sle (broadcastInDim S512x512 ![0, 1] bcast_S1x512_S512x512_0_1 (broadcastInDim S1x512 ![1] bcast_S512_S1x512_1 blkR)) (broadcastInDim S512x512 ![0, 1] bcast_S512x1_S512x512_0_1 (broadcastInDim S512x1 ![0] bcast_S512_S512x1_0 blkR))

/-- Whether a position sees any other. -/
def keepR : IVec S512 1 :=
  Host.reduce IntOp.ori maskR (constantI S_ 1 0#1) reducesTo_S512x512_S512_d1 h_S_

/-- The masked scores. -/
def scR (x : FVec F S2x512x768 .bf16) (wq : FVec F S768x8192 .bf16) (k : FVec F S2x512x128x64 .bf16) : FVec F S2x128x512x512 .f32 :=
  select (broadcastInDim S2x128x512x512 ![0, 1, 2, 3] bcast_S1x1x512x512_S2x128x512x512_0_1_2_3 (broadcastInDim S1x1x512x512 ![2, 3] bcast_S512x512_S1x1x512x512_2_3 maskR)) (mulf (extf .f32 (truncf .bf16 (Host.dotGeneral dot_S2x512x128x64_S2x512x128x64_S2x128x512x512_3_3_1_1_02_02 none (extf .f32 (shapeCast _ (truncf .bf16 (Host.dotGeneral dot_S2x512x768_S768x8192_S2x512x8192_2_0_01_1_n_n none (extf .f32 x bitsLt_bf16_f32) (extf .f32 wq bitsLt_bf16_f32)) bitsLt_bf16_f32) shapeCasts_S2x512x8192_S2x512x128x64) bitsLt_bf16_f32) (extf .f32 k bitsLt_bf16_f32)) bitsLt_bf16_f32) bitsLt_bf16_f32) (broadcastInDim S2x128x512x512 ![] bcast_S_S2x128x512x512 (constant S_ .f32 0x3E000000#32))) (broadcastInDim S2x128x512x512 ![] bcast_S_S2x128x512x512 (id (constant S_ .f32 0xCE6E6B28#32)))

/-- The greatest score of a position. -/
def maxR (s : FVec F S2x128x512x512 .f32) : FVec F S2x128x512 .f32 :=
  Host.reduce FloatOps.maximumf s (constant S_ .f32 0xFF800000#32) reducesTo_S2x128x512x512_S2x128x512_d3 h_S_

/-- The exponentials of the scores less the greatest. -/
def expR (s : FVec F S2x128x512x512 .f32) : FVec F S2x128x512x512 .f32 :=
  Host.exp (subf s (broadcastInDim S2x128x512x512 ![0, 1, 2, 3] bcast_S2x128x512x1_S2x128x512x512_0_1_2_3 (broadcastInDim S2x128x512x1 ![0, 1, 2] bcast_S2x128x512_S2x128x512x1_0_1_2 (maxR s))))

/-- Their sums. -/
def sumR (s : FVec F S2x128x512x512 .f32) : FVec F S2x128x512x1 .f32 :=
  select (broadcastInDim S2x128x512x1 ![0, 1, 2, 3] bcast_S1x1x512x1_S2x128x512x1_0_1_2_3 (broadcastInDim S1x1x512x1 ![2] bcast_S512_S1x1x512x1_2 keepR)) (broadcastInDim S2x128x512x1 ![0, 1, 2] bcast_S2x128x512_S2x128x512x1_0_1_2 (Host.reduceAdd (expR s) (constant S_ .f32 0x00000000#32) reducesTo_S2x128x512x512_S2x128x512_d3 h_S_)) (broadcastInDim S2x128x512x1 ![] bcast_S_S2x128x512x1 (id (constant S_ .f32 0x3F800000#32)))

/-- The softmax weights. -/
def wR (s : FVec F S2x128x512x512 .f32) : FVec F S2x128x512x512 .f32 :=
  select (broadcastInDim S2x128x512x512 ![0, 1, 2, 3] bcast_S1x1x512x1_S2x128x512x512_0_1_2_3 (broadcastInDim S1x1x512x1 ![2] bcast_S512_S1x1x512x1_2 keepR)) (Host.divf (expR s) (broadcastInDim S2x128x512x512 ![0, 1, 2, 3] bcast_S2x128x512x1_S2x128x512x512_0_1_2_3 (sumR s))) (broadcastInDim S2x128x512x512 ![] bcast_S_S2x128x512x512 (id (constant S_ .f32 0x00000000#32)))

/-- The output from the weights, the values and the output weights. -/
def outR (w : FVec F S2x128x512x512 .f32) (v : FVec F S2x512x128x64 .bf16) (wo : FVec F S8192x768 .bf16) : FVec F S2x512x768 .f32 :=
  Host.dotGeneral dot_S2x512x8192_S8192x768_S2x512x768_2_0_01_1_n_n none (shapeCast _ (transpose S2x512x128x64 [0, 3, 1, 2] (Host.dotGeneral dot_S2x512x128x64_S2x128x512x512_S2x128x64x512_1_3_3_2_02_01 none (extf .f32 v bitsLt_bf16_f32) w) transposes_S2x128x64x512_S2x512x128x64_0_3_1_2) shapeCasts_S2x512x128x64_S2x512x8192) (extf .f32 wo bitsLt_bf16_f32)

/-- The reference's result by these pieces. -/
theorem res_eq (m : (ℓ : Loc nD τ sig) → Buf (Elt F) ℓ) (c : Dev nD) :
    Value.res_main_v42 m c = outR (wR (scR (m ((c.tc : Thread nD τ).loc main_arg0)) (m ((c.tc : Thread nD τ).loc main_arg1)) (m ((c.tc : Thread nD τ).loc main_arg2)))) (m ((c.tc : Thread nD τ).loc main_arg3)) (m ((c.tc : Thread nD τ).loc main_arg4)) := rfl

end

/-- The floored quotient by 64 of a position, as the host computes it on words. -/
theorem blk_apply : ∀ i : Fin 512, blkR (ix1 i) = BitVec.ofNat 32 (i.val / 64) := by
  have h : ∀ i : Fin 512, (Scalar.select
        (IntOp.andi
          (IntOp.cmpi CmpIPredicate.ne
            (if BitVec.ofNat 32 i.val = 0 then 0 else if (BitVec.ofNat 32 i.val).msb = true then -1 else 1 : BitVec 32)
            (if (64#32 : BitVec 32) = 0 then 0
            else if (64#32 : BitVec 32).msb = true then -1 else 1 : BitVec 32))
          (IntOp.cmpi CmpIPredicate.ne
            (IntOp.remsi ArithUnit.host (BitVec.ofNat 32 i.val) 64#32) 0#32))
        (IntOp.subi (IntOp.divsi ArithUnit.host (BitVec.ofNat 32 i.val) 64#32) 1#32)
        (IntOp.divsi ArithUnit.host (BitVec.ofNat 32 i.val) 64#32)) = BitVec.ofNat 32 (i.val / 64) := by decide +kernel
  intro i
  pointwise [blkR]
  exact h i

/-- The signed order of small words. -/
theorem sle_word : ∀ a b : Fin 8, IntOp.cmpi CmpIPredicate.sle (BitVec.ofNat 32 b.val) (BitVec.ofNat 32 a.val) = BitVec.ofBool (decide (b.val ≤ a.val)) := by
  decide +kernel

/-- The mask: a position sees the blocks of 64 up to its own. -/
theorem mask_apply (i j : Fin 512) : maskR (ix2 i j) = BitVec.ofBool (decide (j.val / 64 ≤ i.val / 64)) := by
  pointwise [maskR]
  rw [blk_apply i, blk_apply j]
  exact sle_word ⟨i.val / 64, by have := i.isLt; omega⟩ ⟨j.val / 64, by have := j.isLt; omega⟩

theorem ori_one : ∀ b : BitVec 1, IntOp.ori 1#1 b = 1#1 := by decide

/-- Every position sees some position: itself. -/
theorem keep_apply (i : Fin 512) : keepR (ix1 i) = 1#1 := by
  pointwise [keepR]
  rw [← Finset.insert_erase (Finset.mem_univ i), Finset.fold_insert (Finset.notMem_erase _ _), mask_apply, decide_eq_true le_rfl]
  exact ori_one _

/-- The least of the extended reals, as a word. -/
theorem neg_inf : Ideal.ofBits .f32 0xFF800000#32 = ⊥ := by simp [Ideal.ofBits, Ideal.ieee]
/-- The scale of the scores is real. -/
theorem scale_real : ∃ r : ℝ, Ideal.ofBits .f32 0x3E000000#32 = (r : EReal) :=
  ⟨1 / 8, by simp [Ideal.ofBits, Ideal.ieee, -EReal.coe_mul]; norm_num⟩
/-- The score of a masked position is real. -/
theorem masked_real : ∃ r : ℝ, Ideal.ofBits .f32 0xCE6E6B28#32 = (r : EReal) :=
  ⟨-1000000000, by simp [Ideal.ofBits, Ideal.ieee, -EReal.coe_mul, -EReal.coe_neg]; norm_num⟩

/-- The greatest score. -/
theorem max_apply (s : FVec Ideal S2x128x512x512 .f32) (b : Fin 2) (h : Fin 128) (i : Fin 512) :
    maxR s (ix3 b h i) = Finset.univ.fold max ⊥ fun j : Fin 512 => s (ix4 b h i j) := by
  pointwise [maxR]
  rw [neg_inf]

/-- The masked scores. -/
theorem sc_apply (x : FVec Ideal S2x512x768 .bf16) (wq : FVec Ideal S768x8192 .bf16) (k : FVec Ideal S2x512x128x64 .bf16) (b : Fin 2) (h : Fin 128) (i j : Fin 512) :
    scR x wq k (ix4 b h i j) = if j.val / 64 ≤ i.val / 64 then
      (∑ d : Fin 64, (∑ m : Fin 768, x (ix3 b i m) * wq (ix2 m ⟨h.val * 64 + d.val, by have := h.isLt; have := d.isLt; omega⟩)) * k (ix4 b j h d))
        * Ideal.ofBits .f32 0x3E000000#32
      else Ideal.ofBits .f32 0xCE6E6B28#32 := by
  pointwise [scR]
  rw [mask_apply]
  by_cases c : j.val / 64 ≤ i.val / 64
  · rw [if_pos c, decide_eq_true c]; rfl
  · rw [if_neg c, decide_eq_false c]; rfl

/-- The exponentials. -/
theorem exp_apply (s : FVec Ideal S2x128x512x512 .f32) (b : Fin 2) (h : Fin 128) (i j : Fin 512) :
    expR s (ix4 b h i j) = Ideal.exp (s (ix4 b h i j) - maxR s (ix3 b h i)) := by
  pointwise [expR]

/-- The weights. -/
theorem w_apply (s : FVec Ideal S2x128x512x512 .f32) (b : Fin 2) (h : Fin 128) (i j : Fin 512) :
    wR s (ix4 b h i j) = Ideal.div (expR s (ix4 b h i j)) (∑ j' : Fin 512, expR s (ix4 b h i j')) := by
  pointwise [wR, sumR]
  rw [keep_apply]
  rfl

/-- The output. -/
theorem out_apply (w : FVec Ideal S2x128x512x512 .f32) (v : FVec Ideal S2x512x128x64 .bf16) (wo : FVec Ideal S8192x768 .bf16) (b : Fin 2) (i : Fin 512) (m : Fin 768) :
    outR w v wo (ix3 b i m) = ∑ r : Fin 8192, (∑ j : Fin 512, v (ix4 b j (⟨r.val / 64, by have := r.isLt; omega⟩ : Fin 128) (⟨r.val % 64, Nat.mod_lt _ (by decide)⟩ : Fin 64))
      * w (ix4 b (⟨r.val / 64, by have := r.isLt; omega⟩ : Fin 128) i j)) * wo (ix2 r m) := by
  pointwise [outR]

/-- A score of finite arguments is real. -/
theorem sc_real (x : FVec Ideal S2x512x768 .bf16) (wq : FVec Ideal S768x8192 .bf16) (k : FVec Ideal S2x512x128x64 .bf16)
    (hx : ∀ y, ∃ r : ℝ, x y = (r : EReal)) (hwq : ∀ y, ∃ r : ℝ, wq y = (r : EReal)) (hk : ∀ y, ∃ r : ℝ, k y = (r : EReal))
    (b : Fin 2) (h : Fin 128) (i j : Fin 512) : ∃ r : ℝ, scR x wq k (ix4 b h i j) = (r : EReal) := by
  rw [sc_apply]
  split_ifs
  · obtain ⟨r, hr⟩ := Soft.real_dot (fun d : Fin 64 => ∑ m : Fin 768, x (ix3 b i m) * wq (ix2 m ⟨h.val * 64 + d.val, by have := h.isLt; have := d.isLt; omega⟩))
      (fun d => k (ix4 b j h d)) (fun d => Soft.real_dot _ _ (fun _ => hx _) (fun _ => hwq _)) (fun _ => hk _)
    obtain ⟨q, hq⟩ := scale_real
    exact ⟨r * q, by rw [EReal.coe_mul, ← hr, ← hq]⟩
  · exact masked_real

/-- A head's context, as the reference weights its values, is the quotient of the sums. -/
theorem ctx_eq (x : FVec Ideal S2x512x768 .bf16) (wq : FVec Ideal S768x8192 .bf16) (k v : FVec Ideal S2x512x128x64 .bf16)
    (hx : ∀ y, ∃ r : ℝ, x y = (r : EReal)) (hwq : ∀ y, ∃ r : ℝ, wq y = (r : EReal)) (hk : ∀ y, ∃ r : ℝ, k y = (r : EReal))
    (b : Fin 2) (h : Fin 128) (i : Fin 512) (d : Fin 64) :
    (∑ j : Fin 512, v (ix4 b j h d) * wR (scR x wq k) (ix4 b h i j) : EReal)
      = Ideal.div (∑ j : Fin 512, Ideal.exp (scR x wq k (ix4 b h i j)) * v (ix4 b j h d)) (∑ j : Fin 512, Ideal.exp (scR x wq k (ix4 b h i j))) := by
  have ht := sc_real x wq k hx hwq hk b h i
  have hM : ∃ r : ℝ, maxR (scR x wq k) (ix3 b h i) = (r : EReal) := by
    rw [max_apply]; exact Soft.real_max (n := 511) _ ht
  rw [Soft.soft (n := 511) (fun j => scR x wq k (ix4 b h i j)) (fun j => v (ix4 b j h d)) _ ht hM]
  refine Finset.sum_congr rfl fun j _ => ?_
  rw [w_apply, mul_comm]
  simp only [exp_apply]

end Cert.ReferenceIdeal.Pf

end
-- ==== Proof.Value.lean ====
module

public import proofs.«01_k».proof.Defs
public import proofs.«01_k».proof.Proof.Loc
public import proofs.«01_k».proof.Proof.Ref
public import proofs.«01_k».proof.Proof.Main

@[expose] public section

set_option maxRecDepth 8000

noncomputable section

namespace Cert.KernelIdeal.Pf

open Cert.KernelIdeal Cert.KernelIdeal.Gen
open Idealize.ShloMosaic Idealize.ShloMosaic.TcCoe
open Idealize.SL.Sem
open Cert.ReferenceIdeal.Pf (scR wR)
open scoped BigOperators

/-! ## Where a device's blocks lie in the whole arrays -/

/-- The column of the whole query weights a device's column is. -/
def colOf (d : Dev nD) (r : Fin 512) : Fin 8192 := ⟨d.val * 512 + r.val, by have := d.isLt; have := r.isLt; simp only [nD] at *; omega⟩
/-- The head of the whole keys and values a device's head is. -/
def headOf (d : Dev nD) (h : Fin 8) : Fin 128 := ⟨d.val * 8 + h.val, by have := d.isLt; have := h.isLt; simp only [nD] at *; omega⟩

/-- A device's arguments are its blocks of the whole arrays. -/
structure Blocks (A : Dev nD → Args Ideal) (x : FVec Ideal S2x512x768 .bf16) (wq : FVec Ideal ReferenceIdeal.S768x8192 .bf16)
    (k v : FVec Ideal ReferenceIdeal.S2x512x128x64 .bf16) (wo : FVec Ideal ReferenceIdeal.S8192x768 .bf16) : Prop where
  hx : ∀ d, (A d).x = x
  hwq : ∀ d m r, (A d).wq (ix2 m r) = wq (ix2 m (colOf d r))
  hk : ∀ d b j h e, (A d).k (ix4 b j h e) = k (ix4 b j (headOf d h) e)
  hv : ∀ d b j h e, (A d).v (ix4 b j h e) = v (ix4 b j (headOf d h) e)
  hwo : ∀ d r m, (A d).wo (ix2 r m) = wo (ix2 (colOf d r) m)

section
variable {A : Dev nD → Args Ideal} {x : FVec Ideal S2x512x768 .bf16} {wq : FVec Ideal ReferenceIdeal.S768x8192 .bf16}
  {k v : FVec Ideal ReferenceIdeal.S2x512x128x64 .bf16} {wo : FVec Ideal ReferenceIdeal.S8192x768 .bf16} (H : Blocks A x wq k v wo)
include H

/-- A device's exponentials are those of the reference's scores of the same head. -/
theorem exp_eq (d : Dev nD) (b : Fin 2) (h : Fin 8) (i j : Fin 512) :
    expV (qS (A d) b) h (kvS (A d).k b h) (ix2 i j) = Ideal.exp (scR x wq k (ix4 b (headOf d h) i j)) := by
  rw [exp_apply, ReferenceIdeal.Pf.sc_apply]
  refine congrArg Ideal.exp (ite_congr rfl (fun _ => ?_) fun _ => rfl)
  refine congrArg (fun z : EReal => z * Ideal.ofBits .f32 0x3E000000#32) (Finset.sum_congr rfl fun e _ => ?_)
  rw [qS_apply, kvS_apply, H.hk]
  refine congrArg (fun z : EReal => z * k (ix4 b j (headOf d h) e)) (Finset.sum_congr rfl fun m _ => ?_)
  rw [H.hx, H.hwq]
  refine congrArg (fun z => (x (ix3 b i m) * wq (ix2 m z) : EReal)) (Fin.ext ?_)
  show d.val * 512 + (64 * h.val + e.val) = (d.val * 8 + h.val) * 64 + e.val
  omega

/-- A device's context of one of its heads is the reference's of that head. -/
theorem head_eq (hx : ∀ y, ∃ r : ℝ, x y = (r : EReal)) (hwq : ∀ y, ∃ r : ℝ, wq y = (r : EReal)) (hk : ∀ y, ∃ r : ℝ, k y = (r : EReal))
    (d : Dev nD) (b : Fin 2) (h : Fin 8) (i : Fin 512) (e : Fin 64) :
    headV (qS (A d) b) h (kvS (A d).k b h) (kvS (A d).v b h) (ix2 i e)
      = (∑ j : Fin 512, v (ix4 b j (headOf d h) e) * wR (scR x wq k) (ix4 b (headOf d h) i j) : EReal) := by
  rw [ReferenceIdeal.Pf.ctx_eq x wq k v hx hwq hk, head_apply]
  simp only [exp_eq H, kvS_apply, H.hv]

/-- The sum of every device's part is the reference's output. -/
theorem value_eq (hx : ∀ y, ∃ r : ℝ, x y = (r : EReal)) (hwq : ∀ y, ∃ r : ℝ, wq y = (r : EReal)) (hk : ∀ y, ∃ r : ℝ, k y = (r : EReal)) :
    OUT (fun d b => part (A d) b) = ReferenceIdeal.Pf.outR (wR (scR x wq k)) v wo := by
  funext y
  obtain ⟨b, i, n, rfl⟩ : ∃ (b : Fin 2) (i : Fin 512) (n : Fin 768), y = ix3 b i n := ⟨y 0, y 1, y 2, eq_ix3 y⟩
  refine (OUT_sum _ b i n).trans (Eq.trans ?_ (ReferenceIdeal.Pf.out_apply _ v wo b i n).symm)
  refine Eq.trans ?_ (Idealize.ShloMosaic.Fin.sum_univ_tiles (N := 8192) 16 512 (by decide) _).symm
  refine Finset.sum_congr rfl fun d _ => ?_
  rw [part_apply]
  refine Finset.sum_congr rfl fun r _ => ?_
  rw [head_eq H hx hwq hk, H.hwo]
  have h1 : headOf d ⟨r.val / 64, by have := r.isLt; omega⟩ = ⟨(d.val * 512 + r.val) / 64, by have := (colOf d r).isLt; simp only [colOf] at this; omega⟩ :=
    Fin.ext (by show d.val * 8 + r.val / 64 = (d.val * 512 + r.val) / 64; omega)
  have h2 : (⟨r.val % 64, Nat.mod_lt _ (by decide)⟩ : Fin 64) = ⟨(d.val * 512 + r.val) % 64, Nat.mod_lt _ (by decide)⟩ :=
    Fin.ext (by show r.val % 64 = (d.val * 512 + r.val) % 64; omega)
  rw [h1, h2]
  rfl

end

/-! ## The precondition -/

/-- Infinity, as a word. -/
theorem inf_word : Ideal.ofBits .bf16 0x7F80#16 = ⊤ := by simp [Ideal.ofBits, Ideal.ieee]

/-- An array whose elements all compare below infinity in magnitude holds real numbers. -/
theorem real_of {S T : Shape} (a : FVec Ideal S .bf16) {d : Fin T.rank → Fin S.rank} (hb : T.BroadcastsInDim S d)
    (h : cmpf .olt (Host.absf a) (broadcastInDim S d hb (constant T .bf16 0x7F80#16)) = fun _ => 1#1) (y : S.Idx) :
    ∃ r : ℝ, a y = (r : EReal) := by
  have h1 : Ideal.cmp .olt (max (a y) (-(a y))) (Ideal.ofBits .bf16 0x7F80#16) = 1#1 := congrFun h y
  rw [inf_word] at h1
  have h2 : max (a y) (-(a y)) < (⊤ : EReal) := by
    by_contra hn
    simp [Ideal.cmp, hn] at h1
  refine ⟨(a y).toReal, (EReal.coe_toReal ?_ ?_).symm⟩
  · intro e; rw [e] at h2; simp at h2
  · intro e; rw [e] at h2; simp at h2

/-! ## The arguments as the windows fetch them, the result as they leave it -/

/-- Argument 0 read through its window is the whole array. -/
theorem read_0 (f : main_arg0.ty.shape.Idx → Elt Ideal main_arg0.ty.elt) : (win0_0.blk (0 : Fin 1)).view.read (Elt Ideal) f = f :=
  Memref.read_access_unit_zero (Elt Ideal) main_arg0 (funext fun a => by fin_cases a <;> decide) (fun a => by fin_cases a <;> decide) f
/-- Argument 1 read through its window is the whole array. -/
theorem read_1 (f : main_arg1.ty.shape.Idx → Elt Ideal main_arg1.ty.elt) : (win0_1.blk (0 : Fin 1)).view.read (Elt Ideal) f = f :=
  Memref.read_access_unit_zero (Elt Ideal) main_arg1 (funext fun a => by fin_cases a <;> decide) (fun a => by fin_cases a <;> decide) f
/-- Argument 2 read through its window is the whole array. -/
theorem read_2 (f : main_arg2.ty.shape.Idx → Elt Ideal main_arg2.ty.elt) : (win0_2.blk (0 : Fin 1)).view.read (Elt Ideal) f = f :=
  Memref.read_access_unit_zero (Elt Ideal) main_arg2 (funext fun a => by fin_cases a <;> decide) (fun a => by fin_cases a <;> decide) f
/-- Argument 3 read through its window is the whole array. -/
theorem read_3 (f : main_arg3.ty.shape.Idx → Elt Ideal main_arg3.ty.elt) : (win0_3.blk (0 : Fin 1)).view.read (Elt Ideal) f = f :=
  Memref.read_access_unit_zero (Elt Ideal) main_arg3 (funext fun a => by fin_cases a <;> decide) (fun a => by fin_cases a <;> decide) f
/-- Argument 4 read through its window is the whole array. -/
theorem read_4 (f : main_arg4.ty.shape.Idx → Elt Ideal main_arg4.ty.elt) : (win0_4.blk (0 : Fin 1)).view.read (Elt Ideal) f = f :=
  Memref.read_access_unit_zero (Elt Ideal) main_arg4 (funext fun a => by fin_cases a <;> decide) (fun a => by fin_cases a <;> decide) f
/-- The result read through its window is the whole array. -/
theorem read_5 (f : main_v1.ty.shape.Idx → Elt Ideal main_v1.ty.elt) : (win0_5.blk (0 : Fin 1)).view.read (Elt Ideal) f = f :=
  Memref.read_access_unit_zero (Elt Ideal) main_v1 (funext fun a => by fin_cases a <;> decide) (fun a => by fin_cases a <;> decide) f

/-! ## The claim -/

/-- The block of an array of two axes cut along its columns. -/
theorem block_cols (d : Dev nD) (f : ReferenceIdeal.S768x8192.Idx → EReal) (h : Layout.Tiles ⟨2, ![768, 512]⟩ ⟨2, ![768, 8192]⟩ 1 16) (m : Fin 768) (r : Fin 512) :
    Layout.block ⟨2, ![768, 512]⟩ ⟨2, ![768, 8192]⟩ 1 16 d f h (ix2 m r) = f (ix2 m (colOf d r)) :=
  congrArg f (funext fun a => Fin.ext (by rw [Layout.Tiles.idx_val]; fin_cases a <;> rfl))
/-- The block of an array of two axes cut along its rows. -/
theorem block_rows (d : Dev nD) (f : ReferenceIdeal.S8192x768.Idx → EReal) (h : Layout.Tiles ⟨2, ![512, 768]⟩ ⟨2, ![8192, 768]⟩ 0 16) (r : Fin 512) (m : Fin 768) :
    Layout.block ⟨2, ![512, 768]⟩ ⟨2, ![8192, 768]⟩ 0 16 d f h (ix2 r m) = f (ix2 (colOf d r) m) :=
  congrArg f (funext fun a => Fin.ext (by rw [Layout.Tiles.idx_val]; fin_cases a <;> rfl))
/-- The block of an array cut along its heads. -/
theorem block_heads (d : Dev nD) (f : ReferenceIdeal.S2x512x128x64.Idx → EReal) (H : Layout.Tiles ⟨4, ![2, 512, 8, 64]⟩ ⟨4, ![2, 512, 128, 64]⟩ 2 16) (b : Fin 2) (j : Fin 512) (h : Fin 8) (e : Fin 64) :
    Layout.block ⟨4, ![2, 512, 8, 64]⟩ ⟨4, ![2, 512, 128, 64]⟩ 2 16 d f H (ix4 b j h e) = f (ix4 b j (headOf d h) e) :=
  congrArg f (funext fun a => Fin.ext (by rw [Layout.Tiles.idx_val]; fin_cases a <;> rfl))

/-- Every position of the sixteen devices' columns is some device's. -/
theorem colOf_surj (c : Fin 8192) : ∃ d r, c = colOf d r :=
  ⟨⟨c.val / 512, by have := c.isLt; simp only [nD]; omega⟩, ⟨c.val % 512, by omega⟩, Fin.ext (by show c.val = c.val / 512 * 512 + c.val % 512; omega)⟩
/-- Every head is some device's. -/
theorem headOf_surj (c : Fin 128) : ∃ d h, c = headOf d h :=
  ⟨⟨c.val / 8, by have := c.isLt; simp only [nD]; omega⟩, ⟨c.val % 8, by omega⟩, Fin.ext (by show c.val = c.val / 8 * 8 + c.val % 8; omega)⟩

/-- A whole array of query weights holds real numbers where every device's block does. -/
theorem real_cols (f : ReferenceIdeal.S768x8192.Idx → EReal) (X : Dev nD → S768x512.Idx → EReal) (hX : ∀ d y, ∃ r : ℝ, X d y = (r : EReal))
    (h : ∀ d m r, X d (ix2 m r) = f (ix2 m (colOf d r))) (y : ReferenceIdeal.S768x8192.Idx) : ∃ r : ℝ, f y = (r : EReal) := by
  obtain ⟨a, c, rfl⟩ : ∃ (a : Fin 768) (c : Fin 8192), y = ix2 a c := ⟨y 0, y 1, eq_ix2 y⟩
  obtain ⟨d, r, rfl⟩ := colOf_surj c
  rw [← h]; exact hX d _
/-- A whole array of keys holds real numbers where every device's block does. -/
theorem real_heads (f : ReferenceIdeal.S2x512x128x64.Idx → EReal) (X : Dev nD → S2x512x8x64.Idx → EReal) (hX : ∀ d y, ∃ r : ℝ, X d y = (r : EReal))
    (h : ∀ d b j h e, X d (ix4 b j h e) = f (ix4 b j (headOf d h) e)) (y : ReferenceIdeal.S2x512x128x64.Idx) : ∃ r : ℝ, f y = (r : EReal) := by
  obtain ⟨b, j, c, e, rfl⟩ : ∃ (b : Fin 2) (j : Fin 512) (c : Fin 128) (e : Fin 64), y = ix4 b j c e := ⟨y 0, y 1, y 2, y 3, eq_ix4 y⟩
  obtain ⟨d, r, rfl⟩ := headOf_surj c
  rw [← h]; exact hX d _

/-- Where the activations, the query weights and the keys are finite, the kernel on the sixteen devices and the
    reference on one both run, and every device's result is the reference's. -/
theorem algebraic [hP : Cert.Pre_finite_KernelIdeal.Facts] : Cert.algebraic_KernelIdeal_ReferenceIdeal_pre_finite_KernelIdeal := by
  intro m g m' g' hpre hin
  have H : Blocks (argOf m) (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1))
      (m' (((0 : Dev ReferenceIdeal.nD).tc : Thread ReferenceIdeal.nD ReferenceIdeal.τ).loc ReferenceIdeal.main_arg2))
      (m' (((0 : Dev ReferenceIdeal.nD).tc : Thread ReferenceIdeal.nD ReferenceIdeal.τ).loc ReferenceIdeal.main_arg3))
      (m' (((0 : Dev ReferenceIdeal.nD).tc : Thread ReferenceIdeal.nD ReferenceIdeal.τ).loc ReferenceIdeal.main_arg4)) :=
    { hx := fun d => (read_0 _).trans (hin d).1
      hwq := fun d i r => (congrFun ((read_1 _).trans (hin d).2.1) (ix2 i r)).trans (block_cols d _ _ i r)
      hk := fun d b j h e => (congrFun ((read_2 _).trans (hin d).2.2.1) (ix4 b j h e)).trans (block_heads d _ _ b j h e)
      hv := fun d b j h e => (congrFun ((read_3 _).trans (hin d).2.2.2.1) (ix4 b j h e)).trans (block_heads d _ _ b j h e)
      hwo := fun d r i => (congrFun ((read_4 _).trans (hin d).2.2.2.2) (ix2 r i)).trans (block_rows d _ _ r i) }
  have hx : ∀ y, ∃ r : ℝ, m' (((0 : Dev ReferenceIdeal.nD).tc : Thread ReferenceIdeal.nD ReferenceIdeal.τ).loc ReferenceIdeal.main_arg0) y = (r : EReal) := by
    rw [← (hin 0).1]
    exact real_of _ _ (hpre 0).1
  have hwq := real_cols _ (fun d => (argOf m d).wq) (fun d y => by
    obtain ⟨r, hr⟩ := real_of _ _ (hpre d).2.1 y
    exact ⟨r, (congrFun (read_1 _) y).trans hr⟩) H.hwq
  have hk := real_heads _ (fun d => (argOf m d).k) (fun d y => by
    obtain ⟨r, hr⟩ := real_of _ _ (hpre d).2.2 y
    exact ⟨r, (congrFun (read_2 _) y).trans hr⟩) H.hk
  refine ⟨ReferenceIdeal.Value.res_main_v42 m' 0, ?_, ?_⟩
  · refine (θ_run (Cert.KernelIdeal.defs (F := Ideal)) _ _).mono (fun r h c => ?_) (run_main (F := Ideal) m g)
    refine ⟨(h.1 c (5 : Fin 6)).trans ?_, (h.1 c (0 : Fin 6)).trans (final_in m g c 0 (by decide)),
       (h.1 c (1 : Fin 6)).trans (final_in m g c 1 (by decide)), (h.1 c (2 : Fin 6)).trans (final_in m g c 2 (by decide)),
       (h.1 c (3 : Fin 6)).trans (final_in m g c 3 (by decide)), (h.1 c (4 : Fin 6)).trans (final_in m g c 4 (by decide))⟩
    refine ((read_5 _).symm.trans (final_out m g c)).trans ?_
    rw [ReferenceIdeal.Pf.res_eq]
    exact value_eq H hx hwq hk
  · exact (θ_run (Cert.ReferenceIdeal.defs (F := Ideal)) _ _).mono (fun r h => h 0) (ReferenceIdeal.Value.run (F := Ideal) m' g')

end Cert.KernelIdeal.Pf

end
-- ==== Proof.lean ====
/- The claims about the all-reduce attention layer on sixteen devices, and their conjunction. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Main
public import proofs.«01_k».proof.Proof.KMain
public import proofs.«01_k».proof.Proof.Value
public import Idealize.ShloMosaic.Adequacy
public import Idealize.ShloMosaic.Init

@[expose] public section

noncomputable section

namespace Cert.Proof

open Idealize.ShloMosaic Idealize.SL.Sem

/-- Every run of `Kernel` ends with its arguments unchanged and every semaphore at zero. -/
theorem frame_Kernel : Cert.quiescent_Kernel := fun m ρ _ =>
  (θ_run (Cert.Kernel.defs (F := Bits)) _ _).mono
    (fun _ h => ⟨fun c =>
      ⟨(h.1 c (0 : Fin 6)).trans (Cert.Kernel.Pf.final_in m ρ c 0 (by decide)),
       (h.1 c (1 : Fin 6)).trans (Cert.Kernel.Pf.final_in m ρ c 1 (by decide)),
       (h.1 c (2 : Fin 6)).trans (Cert.Kernel.Pf.final_in m ρ c 2 (by decide)),
       (h.1 c (3 : Fin 6)).trans (Cert.Kernel.Pf.final_in m ρ c 3 (by decide)),
       (h.1 c (4 : Fin 6)).trans (Cert.Kernel.Pf.final_in m ρ c 4 (by decide))⟩, h.2⟩)
    (Cert.Kernel.Pf.run_main (F := Bits) m ρ)

/-- Every run of `KernelIdeal` ends with its arguments unchanged and every semaphore at zero. -/
theorem frame_KernelIdeal : Cert.quiescent_KernelIdeal := fun m ρ _ =>
  (θ_run (Cert.KernelIdeal.defs (F := Ideal)) _ _).mono
    (fun _ h => ⟨fun c =>
      ⟨(h.1 c (0 : Fin 6)).trans (Cert.KernelIdeal.Pf.final_in m ρ c 0 (by decide)),
       (h.1 c (1 : Fin 6)).trans (Cert.KernelIdeal.Pf.final_in m ρ c 1 (by decide)),
       (h.1 c (2 : Fin 6)).trans (Cert.KernelIdeal.Pf.final_in m ρ c 2 (by decide)),
       (h.1 c (3 : Fin 6)).trans (Cert.KernelIdeal.Pf.final_in m ρ c 3 (by decide)),
       (h.1 c (4 : Fin 6)).trans (Cert.KernelIdeal.Pf.final_in m ρ c 4 (by decide))⟩, h.2⟩)
    (Cert.KernelIdeal.Pf.run_main (F := Ideal) m ρ)

/-- Every run of the reference ends with its arguments unchanged and every semaphore at zero. -/
theorem frame_ReferenceIdeal : Cert.quiescent_ReferenceIdeal := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

/-- The side conditions of the precondition, on a device's blocks. -/
theorem facts_KernelIdeal : Cert.Pre_finite_KernelIdeal.Facts := ⟨by decide, by decide, by decide⟩
/-- The side conditions of the precondition, on whole arrays. -/
theorem facts_ReferenceIdeal : Cert.Pre_finite_ReferenceIdeal.Facts := ⟨by decide, by decide, by decide⟩

/-- All the claims. -/
theorem claim : Cert.Claim := ⟨Cert.Kernel.Gen.facts, Cert.KernelIdeal.Gen.facts, Cert.ReferenceIdeal.Gen.facts, facts_KernelIdeal, facts_ReferenceIdeal,
  frame_Kernel, frame_KernelIdeal, fun m ρ _ => frame_KernelIdeal m ρ trivial,
  frame_ReferenceIdeal, fun m ρ _ => frame_ReferenceIdeal m ρ trivial,
  trivial, @Cert.KernelIdeal.Pf.algebraic facts_KernelIdeal⟩

end Cert.Proof

end
